-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v161) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v361) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S320000x4 : Shape := ⟨2, ![320000, 4]⟩
abbrev S10000 : Shape := ⟨1, ![10000]⟩
abbrev S128x128 : Shape := ⟨2, ![128, 128]⟩
abbrev S8x16 : Shape := ⟨2, ![8, 16]⟩
abbrev S128 : Shape := ⟨1, ![128]⟩
abbrev S384x10 : Shape := ⟨2, ![384, 10]⟩
abbrev S10 : Shape := ⟨1, ![10]⟩
abbrev S1x320000 : Shape := ⟨2, ![1, 320000]⟩
abbrev S320000 : Shape := ⟨1, ![320000]⟩
abbrev S330000 : Shape := ⟨1, ![330000]⟩
abbrev S_ : Shape := ⟨0, ![]⟩
abbrev S10000x8 : Shape := ⟨2, ![10000, 8]⟩
abbrev S2000x128 : Shape := ⟨2, ![2000, 128]⟩
abbrev S2000x8 : Shape := ⟨2, ![2000, 8]⟩
abbrev S2000x8x16 : Shape := ⟨3, ![2000, 8, 16]⟩
abbrev S1x8x16 : Shape := ⟨3, ![1, 8, 16]⟩
abbrev S330000x1 : Shape := ⟨2, ![330000, 1]⟩
abbrev S330000x8 : Shape := ⟨2, ![330000, 8]⟩
abbrev S10000x8x16 : Shape := ⟨3, ![10000, 8, 16]⟩
abbrev S330000x8x16 : Shape := ⟨3, ![330000, 8, 16]⟩
abbrev S330000x8x1 : Shape := ⟨3, ![330000, 8, 1]⟩
abbrev S1x128 : Shape := ⟨2, ![1, 128]⟩
abbrev S1x10000 : Shape := ⟨2, ![1, 10000]⟩
abbrev S10000x1 : Shape := ⟨2, ![10000, 1]⟩
abbrev S1x10 : Shape := ⟨2, ![1, 10]⟩
abbrev S64x10 : Shape := ⟨2, ![64, 10]⟩
abbrev S64x10000 : Shape := ⟨2, ![64, 10000]⟩
abbrev S64x128 : Shape := ⟨2, ![64, 128]⟩
abbrev S64 : Shape := ⟨1, ![64]⟩
abbrev S64x1 : Shape := ⟨2, ![64, 1]⟩
abbrev S64x384 : Shape := ⟨2, ![64, 384]⟩

abbrev nBuf : Space → Nat
  | .hbm => 247
  | .vmem => 57
  | .smem => 0
  | _ => 0

abbrev hbmTy0_0 (i : Nat) : BufTy := match i % 128 with
  | 0 => ⟨S10000x128, .f32⟩
  | 1 => ⟨S2x320000, .i32⟩
  | 2 => ⟨S320000x4, .f32⟩
  | 3 => ⟨S10000, .i32⟩
  | 4 => ⟨S128x128, .f32⟩
  | 5 => ⟨S8x16, .f32⟩
  | 6 => ⟨S8x16, .f32⟩
  | 7 => ⟨S128, .f32⟩
  | 8 => ⟨S128, .f32⟩
  | 9 => ⟨S128, .f32⟩
  | 10 => ⟨S128x128, .f32⟩
  | 11 => ⟨S8x16, .f32⟩
  | 12 => ⟨S8x16, .f32⟩
  | 13 => ⟨S128, .f32⟩
  | 14 => ⟨S128, .f32⟩
  | 15 => ⟨S128, .f32⟩
  | 16 => ⟨S128x128, .f32⟩
  | 17 => ⟨S8x16, .f32⟩
  | 18 => ⟨S8x16, .f32⟩
  | 19 => ⟨S128, .f32⟩
  | 20 => ⟨S128, .f32⟩
  | 21 => ⟨S128, .f32⟩
  | 22 => ⟨S384x10, .f32⟩
  | 23 => ⟨S10, .f32⟩
  | 24 => ⟨S10000, .i32⟩
  | 25 => ⟨S1x320000, .i32⟩
  | 26 => ⟨S320000, .i32⟩
  | 27 => ⟨S330000, .i32⟩
  | 28 => ⟨S1x320000, .i32⟩
  | 29 => ⟨S320000, .i32⟩
  | 30 => ⟨S330000, .i32⟩
  | 31 => ⟨S_, .f32⟩
  | 32 => ⟨S10000x128, .f32⟩
  | 33 => ⟨S10000x128, .f32⟩
  | 34 => ⟨S10000x8, .f32⟩
  | 35 => ⟨S10000x8, .f32⟩
  | 36 => ⟨S_, .i32⟩
  | 37 => ⟨S330000, .i32⟩
  | 38 => ⟨S330000, .i1⟩
  | 39 => ⟨S_, .i32⟩
  | 40 => ⟨S330000, .i32⟩
  | 41 => ⟨S330000, .i32⟩
  | 42 => ⟨S330000, .i32⟩
  | 43 => ⟨S330000x1, .i32⟩
  | 44 => ⟨S330000x8, .f32⟩
  | 45 => ⟨S_, .i32⟩
  | 46 => ⟨S330000, .i32⟩
  | 47 => ⟨S330000, .i1⟩
  | 48 => ⟨S_, .i32⟩
  | 49 => ⟨S330000, .i32⟩
  | 50 => ⟨S330000, .i32⟩
  | 51 => ⟨S330000, .i32⟩
  | 52 => ⟨S330000x1, .i32⟩
  | 53 => ⟨S330000x8, .f32⟩
  | 54 => ⟨S330000x8, .f32⟩
  | 55 => ⟨S_, .f32⟩
  | 56 => ⟨S_, .f32⟩
  | 57 => ⟨S330000x8, .f32⟩
  | 58 => ⟨S330000x8, .i1⟩
  | 59 => ⟨S_, .f32⟩
  | 60 => ⟨S330000x8, .f32⟩
  | 61 => ⟨S330000x8, .f32⟩
  | 62 => ⟨S330000x8, .f32⟩
  | 63 => ⟨S330000x8, .f32⟩
  | 64 => ⟨S_, .f32⟩
  | 65 => ⟨S10000x8, .f32⟩
  | 66 => ⟨S330000x1, .i32⟩
  | 67 => ⟨S10000x8, .f32⟩
  | 68 => ⟨S_, .i32⟩
  | 69 => ⟨S330000, .i32⟩
  | 70 => ⟨S330000, .i1⟩
  | 71 => ⟨S_, .i32⟩
  | 72 => ⟨S330000, .i32⟩
  | 73 => ⟨S330000, .i32⟩
  | 74 => ⟨S330000, .i32⟩
  | 75 => ⟨S330000x1, .i32⟩
  | 76 => ⟨S330000x8, .f32⟩
  | 77 => ⟨S_, .f32⟩
  | 78 => ⟨S330000x8, .f32⟩
  | 79 => ⟨S330000x8, .f32⟩
  | 80 => ⟨S330000x8, .f32⟩
  | 81 => ⟨S10000x8x16, .f32⟩
  | 82 => ⟨S_, .i32⟩
  | 83 => ⟨S330000, .i32⟩
  | 84 => ⟨S330000, .i1⟩
  | 85 => ⟨S_, .i32⟩
  | 86 => ⟨S330000, .i32⟩
  | 87 => ⟨S330000, .i32⟩
  | 88 => ⟨S330000, .i32⟩
  | 89 => ⟨S330000x1, .i32⟩
  | 90 => ⟨S330000x8x16, .f32⟩
  | 91 => ⟨S330000x8x1, .f32⟩
  | 92 => ⟨S330000x8x16, .f32⟩
  | 93 => ⟨S330000x8x16, .f32⟩
  | 94 => ⟨S_, .f32⟩
  | 95 => ⟨S10000x8x16, .f32⟩
  | 96 => ⟨S330000x1, .i32⟩
  | 97 => ⟨S10000x8x16, .f32⟩
  | 98 => ⟨S10000x128, .f32⟩
  | 99 => ⟨S1x128, .f32⟩
  | 100 => ⟨S1x128, .f32⟩
  | 101 => ⟨S1x128, .f32⟩
  | 102 => ⟨S10000x128, .f32⟩
  | 103 => ⟨S10000x128, .f32⟩
  | 104 => ⟨S10000x8, .f32⟩
  | 105 => ⟨S10000x8, .f32⟩
  | 106 => ⟨S_, .i32⟩
  | 107 => ⟨S330000, .i32⟩
  | 108 => ⟨S330000, .i1⟩
  | 109 => ⟨S_, .i32⟩
  | 110 => ⟨S330000, .i32⟩
  | 111 => ⟨S330000, .i32⟩
  | 112 => ⟨S330000, .i32⟩
  | 113 => ⟨S330000x1, .i32⟩
  | 114 => ⟨S330000x8, .f32⟩
  | 115 => ⟨S_, .i32⟩
  | 116 => ⟨S330000, .i32⟩
  | 117 => ⟨S330000, .i1⟩
  | 118 => ⟨S_, .i32⟩
  | 119 => ⟨S330000, .i32⟩
  | 120 => ⟨S330000, .i32⟩
  | 121 => ⟨S330000, .i32⟩
  | 122 => ⟨S330000x1, .i32⟩
  | 123 => ⟨S330000x8, .f32⟩
  | 124 => ⟨S330000x8, .f32⟩
  | 125 => ⟨S_, .f32⟩
  | 126 => ⟨S_, .f32⟩
  | 127 => ⟨S330000x8, .f32⟩
  | _ => ⟨S10000x128, .f32⟩

abbrev hbmTy0_1 (i : Nat) : BufTy := match i % 128 with
  | 0 => ⟨S330000x8, .i1⟩
  | 1 => ⟨S_, .f32⟩
  | 2 => ⟨S330000x8, .f32⟩
  | 3 => ⟨S330000x8, .f32⟩
  | 4 => ⟨S330000x8, .f32⟩
  | 5 => ⟨S330000x8, .f32⟩
  | 6 => ⟨S_, .f32⟩
  | 7 => ⟨S10000x8, .f32⟩
  | 8 => ⟨S330000x1, .i32⟩
  | 9 => ⟨S10000x8, .f32⟩
  | 10 => ⟨S_, .i32⟩
  | 11 => ⟨S330000, .i32⟩
  | 12 => ⟨S330000, .i1⟩
  | 13 => ⟨S_, .i32⟩
  | 14 => ⟨S330000, .i32⟩
  | 15 => ⟨S330000, .i32⟩
  | 16 => ⟨S330000, .i32⟩
  | 17 => ⟨S330000x1, .i32⟩
  | 18 => ⟨S330000x8, .f32⟩
  | 19 => ⟨S_, .f32⟩
  | 20 => ⟨S330000x8, .f32⟩
  | 21 => ⟨S330000x8, .f32⟩
  | 22 => ⟨S330000x8, .f32⟩
  | 23 => ⟨S10000x8x16, .f32⟩
  | 24 => ⟨S_, .i32⟩
  | 25 => ⟨S330000, .i32⟩
  | 26 => ⟨S330000, .i1⟩
  | 27 => ⟨S_, .i32⟩
  | 28 => ⟨S330000, .i32⟩
  | 29 => ⟨S330000, .i32⟩
  | 30 => ⟨S330000, .i32⟩
  | 31 => ⟨S330000x1, .i32⟩
  | 32 => ⟨S330000x8x16, .f32⟩
  | 33 => ⟨S330000x8x1, .f32⟩
  | 34 => ⟨S330000x8x16, .f32⟩
  | 35 => ⟨S330000x8x16, .f32⟩
  | 36 => ⟨S_, .f32⟩
  | 37 => ⟨S10000x8x16, .f32⟩
  | 38 => ⟨S330000x1, .i32⟩
  | 39 => ⟨S10000x8x16, .f32⟩
  | 40 => ⟨S10000x128, .f32⟩
  | 41 => ⟨S1x128, .f32⟩
  | 42 => ⟨S1x128, .f32⟩
  | 43 => ⟨S1x128, .f32⟩
  | 44 => ⟨S10000x128, .f32⟩
  | 45 => ⟨S10000x128, .f32⟩
  | 46 => ⟨S10000x8, .f32⟩
  | 47 => ⟨S10000x8, .f32⟩
  | 48 => ⟨S_, .i32⟩
  | 49 => ⟨S330000, .i32⟩
  | 50 => ⟨S330000, .i1⟩
  | 51 => ⟨S_, .i32⟩
  | 52 => ⟨S330000, .i32⟩
  | 53 => ⟨S330000, .i32⟩
  | 54 => ⟨S330000, .i32⟩
  | 55 => ⟨S330000x1, .i32⟩
  | 56 => ⟨S330000x8, .f32⟩
  | 57 => ⟨S_, .i32⟩
  | 58 => ⟨S330000, .i32⟩
  | 59 => ⟨S330000, .i1⟩
  | 60 => ⟨S_, .i32⟩
  | 61 => ⟨S330000, .i32⟩
  | 62 => ⟨S330000, .i32⟩
  | 63 => ⟨S330000, .i32⟩
  | 64 => ⟨S330000x1, .i32⟩
  | 65 => ⟨S330000x8, .f32⟩
  | 66 => ⟨S330000x8, .f32⟩
  | 67 => ⟨S_, .f32⟩
  | 68 => ⟨S_, .f32⟩
  | 69 => ⟨S330000x8, .f32⟩
  | 70 => ⟨S330000x8, .i1⟩
  | 71 => ⟨S_, .f32⟩
  | 72 => ⟨S330000x8, .f32⟩
  | 73 => ⟨S330000x8, .f32⟩
  | 74 => ⟨S330000x8, .f32⟩
  | 75 => ⟨S330000x8, .f32⟩
  | 76 => ⟨S_, .f32⟩
  | 77 => ⟨S10000x8, .f32⟩
  | 78 => ⟨S330000x1, .i32⟩
  | 79 => ⟨S10000x8, .f32⟩
  | 80 => ⟨S_, .i32⟩
  | 81 => ⟨S330000, .i32⟩
  | 82 => ⟨S330000, .i1⟩
  | 83 => ⟨S_, .i32⟩
  | 84 => ⟨S330000, .i32⟩
  | 85 => ⟨S330000, .i32⟩
  | 86 => ⟨S330000, .i32⟩
  | 87 => ⟨S330000x1, .i32⟩
  | 88 => ⟨S330000x8, .f32⟩
  | 89 => ⟨S_, .f32⟩
  | 90 => ⟨S330000x8, .f32⟩
  | 91 => ⟨S330000x8, .f32⟩
  | 92 => ⟨S330000x8, .f32⟩
  | 93 => ⟨S10000x8x16, .f32⟩
  | 94 => ⟨S_, .i32⟩
  | 95 => ⟨S330000, .i32⟩
  | 96 => ⟨S330000, .i1⟩
  | 97 => ⟨S_, .i32⟩
  | 98 => ⟨S330000, .i32⟩
  | 99 => ⟨S330000, .i32⟩
  | 100 => ⟨S330000, .i32⟩
  | 101 => ⟨S330000x1, .i32⟩
  | 102 => ⟨S330000x8x16, .f32⟩
  | 103 => ⟨S330000x8x1, .f32⟩
  | 104 => ⟨S330000x8x16, .f32⟩
  | 105 => ⟨S330000x8x16, .f32⟩
  | 106 => ⟨S_, .f32⟩
  | 107 => ⟨S10000x8x16, .f32⟩
  | 108 => ⟨S330000x1, .i32⟩
  | 109 => ⟨S10000x8x16, .f32⟩
  | 110 => ⟨S10000x128, .f32⟩
  | 111 => ⟨S1x128, .f32⟩
  | 112 => ⟨S1x128, .f32⟩
  | 113 => ⟨S1x128, .f32⟩
  | 114 => ⟨S10000x128, .f32⟩
  | 115 => ⟨S1x10000, .i32⟩
  | 116 => ⟨S10000x1, .i32⟩
  | 117 => ⟨S1x10, .f32⟩
  | 118 => ⟨S64x10, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S8x16, .f32⟩
  | .local _ .vmem, ⟨4, _⟩ => ⟨S8x16, .f32⟩
  | .local _ .vmem, ⟨5, _⟩ => ⟨S2000x128, .f32⟩
  | .local _ .vmem, ⟨6, _⟩ => ⟨S2000x128, .f32⟩
  | .local _ .vmem, ⟨7, _⟩ => ⟨S2000x8, .f32⟩
  | .local _ .vmem, ⟨8, _⟩ => ⟨S2000x8, .f32⟩
  | .local _ .vmem, ⟨9, _⟩ => ⟨S2000x8, .f32⟩
  | .local _ .vmem, ⟨10, _⟩ => ⟨S2000x8, .f32⟩
  | .local _ .vmem, ⟨11, _⟩ => ⟨S10000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S10000x128, .f32⟩
  | .local _ .vmem, ⟨16, _⟩ => ⟨S10000x128, .f32⟩
  | .local _ .vmem, ⟨17, _⟩ => ⟨S2000x128, .f32⟩
  | .local _ .vmem, ⟨18, _⟩ => ⟨S2000x128, .f32⟩
  | .local _ .vmem, ⟨19, _⟩ => ⟨S128x128, .f32⟩
  | .local _ .vmem, ⟨20, _⟩ => ⟨S8x16, .f32⟩
  | .local _ .vmem, ⟨21, _⟩ => ⟨S8x16, .f32⟩
  | .local _ .vmem, ⟨22, _⟩ => ⟨S2000x128, .f32⟩
  | .local _ .vmem, ⟨23, _⟩ => ⟨S2000x128, .f32⟩
  | .local _ .vmem, ⟨24, _⟩ => ⟨S2000x8, .f32⟩
  | .local _ .vmem, ⟨25, _⟩ => ⟨S2000x8, .f32⟩
  | .local _ .vmem, ⟨26, _⟩ => ⟨S2000x8, .f32⟩
  | .local _ .vmem, ⟨27, _⟩ => ⟨S2000x8, .f32⟩
  | .local _ .vmem, ⟨28, _⟩ => ⟨S10000x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S10000x128, .f32⟩
  | .local _ .vmem, ⟨33, _⟩ => ⟨S10000x128, .f32⟩
  | .local _ .vmem, ⟨34, _⟩ => ⟨S2000x128, .f32⟩
  | .local _ .vmem, ⟨35, _⟩ => ⟨S2000x128, .f32⟩
  | .local _ .vmem, ⟨36, _⟩ => ⟨S128x128, .f32⟩
  | .local _ .vmem, ⟨37, _⟩ => ⟨S8x16, .f32⟩
  | .local _ .vmem, ⟨38, _⟩ => ⟨S8x16, .f32⟩
  | .local _ .vmem, ⟨39, _⟩ => ⟨S2000x128, .f32⟩
  | .local _ .vmem, ⟨40, _⟩ => ⟨S2000x128, .f32⟩
  | .local _ .vmem, ⟨41, _⟩ => ⟨S2000x8, .f32⟩
  | .local _ .vmem, ⟨42, _⟩ => ⟨S2000x8, .f32⟩
  | .local _ .vmem, ⟨43, _⟩ => ⟨S2000x8, .f32⟩
  | .local _ .vmem, ⟨44, _⟩ => ⟨S2000x8, .f32⟩
  | .local _ .vmem, ⟨45, _⟩ => ⟨S10000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S10000x128, .f32⟩
  | .local _ .vmem, ⟨50, _⟩ => ⟨S10000x128, .f32⟩
  | .local _ .vmem, ⟨51, _⟩ => ⟨S10000x128, .f32⟩
  | .local _ .vmem, ⟨52, _⟩ => ⟨S1x10000, .i32⟩
  | .local _ .vmem, ⟨53, _⟩ => ⟨S10000x1, .i32⟩
  | .local _ .vmem, ⟨54, _⟩ => ⟨S384x10, .f32⟩
  | .local _ .vmem, ⟨55, _⟩ => ⟨S1x10, .f32⟩
  | .local _ .vmem, ⟨56, _⟩ => ⟨S64x10, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8_0 : Ref sig .tc := ⟨.hbm, 33, rfl⟩
abbrev main_v8_1 : Ref sig .tc := ⟨.hbm, 34, rfl⟩
abbrev main_v8_2 : Ref sig .tc := ⟨.hbm, 35, rfl⟩
abbrev main_c : Ref sig .tc := ⟨.hbm, 36, rfl⟩
abbrev main_v9 : Ref sig .tc := ⟨.hbm, 37, rfl⟩
abbrev main_v10 : Ref sig .tc := ⟨.hbm, 38, rfl⟩
abbrev main_c_0 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c_1 : Ref sig .tc := ⟨.hbm, 45, rfl⟩
abbrev main_v16 : Ref sig .tc := ⟨.hbm, 46, rfl⟩
abbrev main_v17 : Ref sig .tc := ⟨.hbm, 47, rfl⟩
abbrev main_c_2 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_3 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v24 : Ref sig .tc := ⟨.hbm, 62, rfl⟩
abbrev main_v25 : Ref sig .tc := ⟨.hbm, 63, rfl⟩
abbrev main_cst_4 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_c_5 : Ref sig .tc := ⟨.hbm, 68, rfl⟩
abbrev main_v29 : Ref sig .tc := ⟨.hbm, 69, rfl⟩
abbrev main_v30 : Ref sig .tc := ⟨.hbm, 70, rfl⟩
abbrev main_c_6 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_7 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_c_8 : Ref sig .tc := ⟨.hbm, 82, rfl⟩
abbrev main_v40 : Ref sig .tc := ⟨.hbm, 83, rfl⟩
abbrev main_v41 : Ref sig .tc := ⟨.hbm, 84, rfl⟩
abbrev main_c_9 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_10 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58_0 : Ref sig .tc := ⟨.hbm, 103, rfl⟩
abbrev main_v58_1 : Ref sig .tc := ⟨.hbm, 104, rfl⟩
abbrev main_v58_2 : Ref sig .tc := ⟨.hbm, 105, rfl⟩
abbrev main_c_11 : Ref sig .tc := ⟨.hbm, 106, rfl⟩
abbrev main_v59 : Ref sig .tc := ⟨.hbm, 107, rfl⟩
abbrev main_v60 : Ref sig .tc := ⟨.hbm, 108, rfl⟩
abbrev main_c_12 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_c_13 : Ref sig .tc := ⟨.hbm, 115, rfl⟩
abbrev main_v66 : Ref sig .tc := ⟨.hbm, 116, rfl⟩
abbrev main_v67 : Ref sig .tc := ⟨.hbm, 117, rfl⟩
abbrev main_c_14 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_cst_15 : Ref sig .tc := ⟨.hbm, 125, rfl⟩
abbrev main_call1_cst : Ref sig .tc := ⟨.hbm, 126, rfl⟩
abbrev main_call1_v0 : Ref sig .tc := ⟨.hbm, 127, rfl⟩
abbrev main_call1_v1 : Ref sig .tc := ⟨.hbm, 128, rfl⟩
abbrev main_call1_v2 : Ref sig .tc := ⟨.hbm, 129, rfl⟩
abbrev main_call1_v3 : Ref sig .tc := ⟨.hbm, 130, rfl⟩
abbrev main_call1_v4 : Ref sig .tc := ⟨.hbm, 131, rfl⟩
abbrev main_v74 : Ref sig .tc := ⟨.hbm, 132, rfl⟩
abbrev main_v75 : Ref sig .tc := ⟨.hbm, 133, rfl⟩
abbrev main_cst_16 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_c_17 : Ref sig .tc := ⟨.hbm, 138, rfl⟩
abbrev main_v79 : Ref sig .tc := ⟨.hbm, 139, rfl⟩
abbrev main_v80 : Ref sig .tc := ⟨.hbm, 140, rfl⟩
abbrev main_c_18 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_cst_19 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_c_20 : Ref sig .tc := ⟨.hbm, 152, rfl⟩
abbrev main_v90 : Ref sig .tc := ⟨.hbm, 153, rfl⟩
abbrev main_v91 : Ref sig .tc := ⟨.hbm, 154, rfl⟩
abbrev main_c_21 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_cst_22 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108_0 : Ref sig .tc := ⟨.hbm, 173, rfl⟩
abbrev main_v108_1 : Ref sig .tc := ⟨.hbm, 174, rfl⟩
abbrev main_v108_2 : Ref sig .tc := ⟨.hbm, 175, rfl⟩
abbrev main_c_23 : Ref sig .tc := ⟨.hbm, 176, rfl⟩
abbrev main_v109 : Ref sig .tc := ⟨.hbm, 177, rfl⟩
abbrev main_v110 : Ref sig .tc := ⟨.hbm, 178, rfl⟩
abbrev main_c_24 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_c_25 : Ref sig .tc := ⟨.hbm, 185, rfl⟩
abbrev main_v116 : Ref sig .tc := ⟨.hbm, 186, rfl⟩
abbrev main_v117 : Ref sig .tc := ⟨.hbm, 187, rfl⟩
abbrev main_c_26 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_cst_27 : Ref sig .tc := ⟨.hbm, 195, rfl⟩
abbrev main_call2_cst : Ref sig .tc := ⟨.hbm, 196, rfl⟩
abbrev main_call2_v0 : Ref sig .tc := ⟨.hbm, 197, rfl⟩
abbrev main_call2_v1 : Ref sig .tc := ⟨.hbm, 198, rfl⟩
abbrev main_call2_v2 : Ref sig .tc := ⟨.hbm, 199, rfl⟩
abbrev main_call2_v3 : Ref sig .tc := ⟨.hbm, 200, rfl⟩
abbrev main_call2_v4 : Ref sig .tc := ⟨.hbm, 201, rfl⟩
abbrev main_v124 : Ref sig .tc := ⟨.hbm, 202, rfl⟩
abbrev main_v125 : Ref sig .tc := ⟨.hbm, 203, rfl⟩
abbrev main_cst_28 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_c_29 : Ref sig .tc := ⟨.hbm, 208, rfl⟩
abbrev main_v129 : Ref sig .tc := ⟨.hbm, 209, rfl⟩
abbrev main_v130 : Ref sig .tc := ⟨.hbm, 210, rfl⟩
abbrev main_c_30 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_cst_31 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_c_32 : Ref sig .tc := ⟨.hbm, 222, rfl⟩
abbrev main_v140 : Ref sig .tc := ⟨.hbm, 223, rfl⟩
abbrev main_v141 : Ref sig .tc := ⟨.hbm, 224, rfl⟩
abbrev main_c_33 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_cst_34 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg4_1 : Ref sig .tc := ⟨.vmem, 40, rfl⟩
abbrev cc4_stg5_0 : Ref sig .tc := ⟨.vmem, 41, rfl⟩
abbrev cc4_stg5_1 : Ref sig .tc := ⟨.vmem, 42, rfl⟩
abbrev cc4_stg6_0 : Ref sig .tc := ⟨.vmem, 43, rfl⟩
abbrev cc4_stg6_1 : Ref sig .tc := ⟨.vmem, 44, rfl⟩
abbrev cc5_stg0_0 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc6_stg0_0 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg3_0 : Ref sig .tc := ⟨.vmem, 54, rfl⟩
abbrev cc6_stg4_0 : Ref sig .tc := ⟨.vmem, 55, rfl⟩
abbrev cc6_stg5_0 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem6_1 : DmaSem sig := 27
abbrev cc3_sem0_0 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem4_1 : DmaSem sig := 40
abbrev cc4_sem5_0 : DmaSem sig := 41
abbrev cc4_sem5_1 : DmaSem sig := 42
abbrev cc4_sem6_0 : DmaSem sig := 43
abbrev cc4_sem6_1 : DmaSem sig := 44
abbrev cc5_sem0_0 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc6_sem0_0 : DmaSem sig := 51
abbrev cc6_sem1_0 : DmaSem sig := 52
abbrev cc6_sem2_0 : DmaSem sig := 53
abbrev cc6_sem3_0 : DmaSem sig := 54
abbrev cc6_sem4_0 : DmaSem sig := 55
abbrev cc6_sem5_0 : DmaSem sig := 56

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := .none

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S10000x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S10000x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x8 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x8 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := .none

abbrev stage3_0 : Fin 1 → Memref sig .tc .vmem S10000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S10000x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S10000x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S8x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S8x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S2000x8 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2000x8 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := .none

abbrev stage5_0 : Fin 1 → Memref sig .tc .vmem S10000x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S10000x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S10000x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev grid6 : Pipeline.Grid := .none

abbrev stage6_0 : Fin 1 → Memref sig .tc .vmem S10000x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S1x10000 .i32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S10000x1 .i32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev stage6_3 : Fin 1 → Memref sig .tc .vmem S384x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))

abbrev stage6_4 : Fin 1 → Memref sig .tc .vmem S1x10 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))

abbrev stage6_5 : Fin 1 → Memref sig .tc .vmem S64x10 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S10000x128 : Shape := ⟨2, ![10000, 128]⟩
abbrev S2x320000 : Shape := ⟨2, ![2, 320000]⟩
abbrev S320000x4 : Shape := ⟨2, ![320000, 4]⟩
abbrev S10000 : Shape := ⟨1, ![10000]⟩
abbrev S128x128 : Shape := ⟨2, ![128, 128]⟩
abbrev S8x16 : Shape := ⟨2, ![8, 16]⟩
abbrev S128 : Shape := ⟨1, ![128]⟩
abbrev S384x10 : Shape := ⟨2, ![384, 10]⟩
abbrev S10 : Shape := ⟨1, ![10]⟩
abbrev S1x320000 : Shape := ⟨2, ![1, 320000]⟩
abbrev S320000 : Shape := ⟨1, ![320000]⟩
abbrev S330000 : Shape := ⟨1, ![330000]⟩
abbrev S10000x8x16 : Shape := ⟨3, ![10000, 8, 16]⟩
abbrev S1x8x16 : Shape := ⟨3, ![1, 8, 16]⟩
abbrev S_ : Shape := ⟨0, ![]⟩
abbrev S10000x8 : Shape := ⟨2, ![10000, 8]⟩
abbrev S330000x1 : Shape := ⟨2, ![330000, 1]⟩
abbrev S330000x8 : Shape := ⟨2, ![330000, 8]⟩
abbrev S10000x1 : Shape := ⟨2, ![10000, 1]⟩
abbrev S1x330000 : Shape := ⟨2, ![1, 330000]⟩
abbrev S10000x330000 : Shape := ⟨2, ![10000, 330000]⟩
abbrev S10000x330000x1 : Shape := ⟨3, ![10000, 330000, 1]⟩
abbrev S1x330000x8 : Shape := ⟨3, ![1, 330000, 8]⟩
abbrev S10000x330000x8 : Shape := ⟨3, ![10000, 330000, 8]⟩
abbrev S330000x8x16 : Shape := ⟨3, ![330000, 8, 16]⟩
abbrev S330000x8x1 : Shape := ⟨3, ![330000, 8, 1]⟩
abbrev S1x128 : Shape := ⟨2, ![1, 128]⟩
abbrev S64x128 : Shape := ⟨2, ![64, 128]⟩
abbrev S64x1 : Shape := ⟨2, ![64, 1]⟩
abbrev S64 : Shape := ⟨1, ![64]⟩
abbrev S1x10000 : Shape := ⟨2, ![1, 10000]⟩
abbrev S64x10000 : Shape := ⟨2, ![64, 10000]⟩
abbrev S64x10000x1 : Shape := ⟨3, ![64, 10000, 1]⟩
abbrev S1x10000x128 : Shape := ⟨3, ![1, 10000, 128]⟩
abbrev S64x10000x128 : Shape := ⟨3, ![64, 10000, 128]⟩
abbrev S64x384 : Shape := ⟨2, ![64, 384]⟩
abbrev S64x10 : Shape := ⟨2, ![64, 10]⟩
abbrev S1x10 : Shape := ⟨2, ![1, 10]⟩

abbrev nBuf : Space → Nat
  | .hbm => 615
  | .vmem => 0
  | .smem => 0
  | _ => 0

abbrev hbmTy0_0 (i : Nat) : BufTy := match i % 128 with
  | 0 => ⟨S10000x128, .f32⟩
  | 1 => ⟨S2x320000, .i32⟩
  | 2 => ⟨S320000x4, .f32⟩
  | 3 => ⟨S10000, .i32⟩
  | 4 => ⟨S128x128, .f32⟩
  | 5 => ⟨S8x16, .f32⟩
  | 6 => ⟨S8x16, .f32⟩
  | 7 => ⟨S128, .f32⟩
  | 8 => ⟨S128, .f32⟩
  | 9 => ⟨S128, .f32⟩
  | 10 => ⟨S128x128, .f32⟩
  | 11 => ⟨S8x16, .f32⟩
  | 12 => ⟨S8x16, .f32⟩
  | 13 => ⟨S128, .f32⟩
  | 14 => ⟨S128, .f32⟩
  | 15 => ⟨S128, .f32⟩
  | 16 => ⟨S128x128, .f32⟩
  | 17 => ⟨S8x16, .f32⟩
  | 18 => ⟨S8x16, .f32⟩
  | 19 => ⟨S128, .f32⟩
  | 20 => ⟨S128, .f32⟩
  | 21 => ⟨S128, .f32⟩
  | 22 => ⟨S384x10, .f32⟩
  | 23 => ⟨S10, .f32⟩
  | 24 => ⟨S10000, .i32⟩
  | 25 => ⟨S1x320000, .i32⟩
  | 26 => ⟨S320000, .i32⟩
  | 27 => ⟨S330000, .i32⟩
  | 28 => ⟨S1x320000, .i32⟩
  | 29 => ⟨S320000, .i32⟩
  | 30 => ⟨S330000, .i32⟩
  | 31 => ⟨S10000x128, .f32⟩
  | 32 => ⟨S10000x8x16, .f32⟩
  | 33 => ⟨S1x8x16, .f32⟩
  | 34 => ⟨S10000x8x16, .f32⟩
  | 35 => ⟨S10000x8x16, .f32⟩
  | 36 => ⟨S_, .f32⟩
  | 37 => ⟨S10000x8, .f32⟩
  | 38 => ⟨S1x8x16, .f32⟩
  | 39 => ⟨S10000x8x16, .f32⟩
  | 40 => ⟨S10000x8x16, .f32⟩
  | 41 => ⟨S_, .f32⟩
  | 42 => ⟨S10000x8, .f32⟩
  | 43 => ⟨S_, .i32⟩
  | 44 => ⟨S330000, .i32⟩
  | 45 => ⟨S330000, .i1⟩
  | 46 => ⟨S_, .i32⟩
  | 47 => ⟨S330000, .i32⟩
  | 48 => ⟨S330000, .i32⟩
  | 49 => ⟨S330000, .i32⟩
  | 50 => ⟨S330000x1, .i32⟩
  | 51 => ⟨S330000x8, .f32⟩
  | 52 => ⟨S_, .i32⟩
  | 53 => ⟨S330000, .i32⟩
  | 54 => ⟨S330000, .i1⟩
  | 55 => ⟨S_, .i32⟩
  | 56 => ⟨S330000, .i32⟩
  | 57 => ⟨S330000, .i32⟩
  | 58 => ⟨S330000, .i32⟩
  | 59 => ⟨S330000x1, .i32⟩
  | 60 => ⟨S330000x8, .f32⟩
  | 61 => ⟨S330000x8, .f32⟩
  | 62 => ⟨S_, .f32⟩
  | 63 => ⟨S_, .f32⟩
  | 64 => ⟨S330000x8, .f32⟩
  | 65 => ⟨S330000x8, .i1⟩
  | 66 => ⟨S_, .f32⟩
  | 67 => ⟨S330000x8, .f32⟩
  | 68 => ⟨S330000x8, .f32⟩
  | 69 => ⟨S330000x8, .f32⟩
  | 70 => ⟨S10000, .i32⟩
  | 71 => ⟨S10000x1, .i32⟩
  | 72 => ⟨S1x330000, .i32⟩
  | 73 => ⟨S10000x330000, .i32⟩
  | 74 => ⟨S10000x330000, .i32⟩
  | 75 => ⟨S10000x330000, .i1⟩
  | 76 => ⟨S10000x330000x1, .i1⟩
  | 77 => ⟨S1x330000x8, .f32⟩
  | 78 => ⟨S_, .f32⟩
  | 79 => ⟨S_, .f32⟩
  | 80 => ⟨S10000x330000x8, .i1⟩
  | 81 => ⟨S10000x330000x8, .f32⟩
  | 82 => ⟨S10000x330000x8, .f32⟩
  | 83 => ⟨S10000x330000x8, .f32⟩
  | 84 => ⟨S_, .f32⟩
  | 85 => ⟨S10000x8, .f32⟩
  | 86 => ⟨S10000x8, .f32⟩
  | 87 => ⟨S_, .f32⟩
  | 88 => ⟨S10000x8, .f32⟩
  | 89 => ⟨S10000x8, .i1⟩
  | 90 => ⟨S_, .f32⟩
  | 91 => ⟨S_, .f32⟩
  | 92 => ⟨S10000x8, .f32⟩
  | 93 => ⟨S10000x8, .f32⟩
  | 94 => ⟨S_, .i32⟩
  | 95 => ⟨S330000, .i32⟩
  | 96 => ⟨S330000, .i1⟩
  | 97 => ⟨S_, .i32⟩
  | 98 => ⟨S330000, .i32⟩
  | 99 => ⟨S330000, .i32⟩
  | 100 => ⟨S330000, .i32⟩
  | 101 => ⟨S330000x1, .i32⟩
  | 102 => ⟨S330000x8, .f32⟩
  | 103 => ⟨S330000x8, .f32⟩
  | 104 => ⟨S330000x8, .f32⟩
  | 105 => ⟨S_, .f32⟩
  | 106 => ⟨S10000x8, .f32⟩
  | 107 => ⟨S330000x1, .i32⟩
  | 108 => ⟨S10000x8, .f32⟩
  | 109 => ⟨S_, .i32⟩
  | 110 => ⟨S330000, .i32⟩
  | 111 => ⟨S330000, .i1⟩
  | 112 => ⟨S_, .i32⟩
  | 113 => ⟨S330000, .i32⟩
  | 114 => ⟨S330000, .i32⟩
  | 115 => ⟨S330000, .i32⟩
  | 116 => ⟨S330000x1, .i32⟩
  | 117 => ⟨S330000x8, .f32⟩
  | 118 => ⟨S_, .i32⟩
  | 119 => ⟨S330000, .i32⟩
  | 120 => ⟨S330000, .i1⟩
  | 121 => ⟨S_, .i32⟩
  | 122 => ⟨S330000, .i32⟩
  | 123 => ⟨S330000, .i32⟩
  | 124 => ⟨S330000, .i32⟩
  | 125 => ⟨S330000x1, .i32⟩
  | 126 => ⟨S330000x8, .f32⟩
  | 127 => ⟨S330000x8, .f32⟩
  | _ => ⟨S10000x128, .f32⟩

abbrev hbmTy0_1 (i : Nat) : BufTy := match i % 128 with
  | 0 => ⟨S330000x8, .f32⟩
  | 1 => ⟨S_, .f32⟩
  | 2 => ⟨S330000x8, .f32⟩
  | 3 => ⟨S330000x8, .f32⟩
  | 4 => ⟨S330000x8, .f32⟩
  | 5 => ⟨S330000x8, .f32⟩
  | 6 => ⟨S_, .i32⟩
  | 7 => ⟨S330000, .i32⟩
  | 8 => ⟨S330000, .i1⟩
  | 9 => ⟨S_, .i32⟩
  | 10 => ⟨S330000, .i32⟩
  | 11 => ⟨S330000, .i32⟩
  | 12 => ⟨S330000, .i32⟩
  | 13 => ⟨S330000x1, .i32⟩
  | 14 => ⟨S330000x8x16, .f32⟩
  | 15 => ⟨S330000x8x1, .f32⟩
  | 16 => ⟨S330000x8x16, .f32⟩
  | 17 => ⟨S330000x8x16, .f32⟩
  | 18 => ⟨S_, .f32⟩
  | 19 => ⟨S10000x8x16, .f32⟩
  | 20 => ⟨S330000x1, .i32⟩
  | 21 => ⟨S10000x8x16, .f32⟩
  | 22 => ⟨S10000x128, .f32⟩
  | 23 => ⟨S1x128, .f32⟩
  | 24 => ⟨S10000x128, .f32⟩
  | 25 => ⟨S10000x128, .f32⟩
  | 26 => ⟨S_, .f32⟩
  | 27 => ⟨S128, .f32⟩
  | 28 => ⟨S_, .f32⟩
  | 29 => ⟨S128, .f32⟩
  | 30 => ⟨S128, .f32⟩
  | 31 => ⟨S_, .i32⟩
  | 32 => ⟨S_, .f32⟩
  | 33 => ⟨S128, .f32⟩
  | 34 => ⟨S1x128, .f32⟩
  | 35 => ⟨S_, .f32⟩
  | 36 => ⟨S1x128, .f32⟩
  | 37 => ⟨S1x128, .f32⟩
  | 38 => ⟨S10000x128, .f32⟩
  | 39 => ⟨S10000x128, .f32⟩
  | 40 => ⟨S10000x128, .f32⟩
  | 41 => ⟨S_, .f32⟩
  | 42 => ⟨S_, .f32⟩
  | 43 => ⟨S_, .f32⟩
  | 44 => ⟨S_, .f32⟩
  | 45 => ⟨S128, .f32⟩
  | 46 => ⟨S128, .f32⟩
  | 47 => ⟨S128, .f32⟩
  | 48 => ⟨S_, .f32⟩
  | 49 => ⟨S_, .i1⟩
  | 50 => ⟨S_, .f32⟩
  | 51 => ⟨S_, .f32⟩
  | 52 => ⟨S128, .f32⟩
  | 53 => ⟨S128, .f32⟩
  | 54 => ⟨S1x128, .f32⟩
  | 55 => ⟨S10000x128, .f32⟩
  | 56 => ⟨S10000x128, .f32⟩
  | 57 => ⟨S1x128, .f32⟩
  | 58 => ⟨S10000x128, .f32⟩
  | 59 => ⟨S10000x128, .f32⟩
  | 60 => ⟨S_, .f32⟩
  | 61 => ⟨S128, .f32⟩
  | 62 => ⟨S128, .f32⟩
  | 63 => ⟨S128, .f32⟩
  | 64 => ⟨S1x128, .f32⟩
  | 65 => ⟨S10000x128, .f32⟩
  | 66 => ⟨S10000x128, .f32⟩
  | 67 => ⟨S1x128, .f32⟩
  | 68 => ⟨S10000x128, .f32⟩
  | 69 => ⟨S10000x128, .f32⟩
  | 70 => ⟨S_, .f32⟩
  | 71 => ⟨S10000x128, .f32⟩
  | 72 => ⟨S10000x128, .i1⟩
  | 73 => ⟨S_, .f32⟩
  | 74 => ⟨S10000x128, .f32⟩
  | 75 => ⟨S10000x128, .i1⟩
  | 76 => ⟨S_, .f32⟩
  | 77 => ⟨S_, .f32⟩
  | 78 => ⟨S10000x128, .f32⟩
  | 79 => ⟨S10000x128, .f32⟩
  | 80 => ⟨S10000x128, .f32⟩
  | 81 => ⟨S_, .f32⟩
  | 82 => ⟨S10000x128, .f32⟩
  | 83 => ⟨S10000x128, .f32⟩
  | 84 => ⟨S10000x128, .f32⟩
  | 85 => ⟨S10000x128, .f32⟩
  | 86 => ⟨S10000x8x16, .f32⟩
  | 87 => ⟨S1x8x16, .f32⟩
  | 88 => ⟨S10000x8x16, .f32⟩
  | 89 => ⟨S10000x8x16, .f32⟩
  | 90 => ⟨S_, .f32⟩
  | 91 => ⟨S10000x8, .f32⟩
  | 92 => ⟨S1x8x16, .f32⟩
  | 93 => ⟨S10000x8x16, .f32⟩
  | 94 => ⟨S10000x8x16, .f32⟩
  | 95 => ⟨S_, .f32⟩
  | 96 => ⟨S10000x8, .f32⟩
  | 97 => ⟨S_, .i32⟩
  | 98 => ⟨S330000, .i32⟩
  | 99 => ⟨S330000, .i1⟩
  | 100 => ⟨S_, .i32⟩
  | 101 => ⟨S330000, .i32⟩
  | 102 => ⟨S330000, .i32⟩
  | 103 => ⟨S330000, .i32⟩
  | 104 => ⟨S330000x1, .i32⟩
  | 105 => ⟨S330000x8, .f32⟩
  | 106 => ⟨S_, .i32⟩
  | 107 => ⟨S330000, .i32⟩
  | 108 => ⟨S330000, .i1⟩
  | 109 => ⟨S_, .i32⟩
  | 110 => ⟨S330000, .i32⟩
  | 111 => ⟨S330000, .i32⟩
  | 112 => ⟨S330000, .i32⟩
  | 113 => ⟨S330000x1, .i32⟩
  | 114 => ⟨S330000x8, .f32⟩
  | 115 => ⟨S330000x8, .f32⟩
  | 116 => ⟨S_, .f32⟩
  | 117 => ⟨S_, .f32⟩
  | 118 => ⟨S330000x8, .f32⟩
  | 119 => ⟨S330000x8, .i1⟩
  | 120 => ⟨S_, .f32⟩
  | 121 => ⟨S330000x8, .f32⟩
  | 122 => ⟨S330000x8, .f32⟩
  | 123 => ⟨S330000x8, .f32⟩
  | 124 => ⟨S10000, .i32⟩
  | 125 => ⟨S10000x1, .i32⟩
  | 126 => ⟨S1x330000, .i32⟩
  | 127 => ⟨S10000x330000, .i32⟩
  | _ => ⟨S10000x128, .f32⟩

abbrev hbmTy0_2 (i : Nat) : BufTy := match i % 128 with
  | 0 => ⟨S10000x330000, .i32⟩
  | 1 => ⟨S10000x330000, .i1⟩
  | 2 => ⟨S10000x330000x1, .i1⟩
  | 3 => ⟨S1x330000x8, .f32⟩
  | 4 => ⟨S_, .f32⟩
  | 5 => ⟨S_, .f32⟩
  | 6 => ⟨S10000x330000x8, .i1⟩
  | 7 => ⟨S10000x330000x8, .f32⟩
  | 8 => ⟨S10000x330000x8, .f32⟩
  | 9 => ⟨S10000x330000x8, .f32⟩
  | 10 => ⟨S_, .f32⟩
  | 11 => ⟨S10000x8, .f32⟩
  | 12 => ⟨S10000x8, .f32⟩
  | 13 => ⟨S_, .f32⟩
  | 14 => ⟨S10000x8, .f32⟩
  | 15 => ⟨S10000x8, .i1⟩
  | 16 => ⟨S_, .f32⟩
  | 17 => ⟨S_, .f32⟩
  | 18 => ⟨S10000x8, .f32⟩
  | 19 => ⟨S10000x8, .f32⟩
  | 20 => ⟨S_, .i32⟩
  | 21 => ⟨S330000, .i32⟩
  | 22 => ⟨S330000, .i1⟩
  | 23 => ⟨S_, .i32⟩
  | 24 => ⟨S330000, .i32⟩
  | 25 => ⟨S330000, .i32⟩
  | 26 => ⟨S330000, .i32⟩
  | 27 => ⟨S330000x1, .i32⟩
  | 28 => ⟨S330000x8, .f32⟩
  | 29 => ⟨S330000x8, .f32⟩
  | 30 => ⟨S330000x8, .f32⟩
  | 31 => ⟨S_, .f32⟩
  | 32 => ⟨S10000x8, .f32⟩
  | 33 => ⟨S330000x1, .i32⟩
  | 34 => ⟨S10000x8, .f32⟩
  | 35 => ⟨S_, .i32⟩
  | 36 => ⟨S330000, .i32⟩
  | 37 => ⟨S330000, .i1⟩
  | 38 => ⟨S_, .i32⟩
  | 39 => ⟨S330000, .i32⟩
  | 40 => ⟨S330000, .i32⟩
  | 41 => ⟨S330000, .i32⟩
  | 42 => ⟨S330000x1, .i32⟩
  | 43 => ⟨S330000x8, .f32⟩
  | 44 => ⟨S_, .i32⟩
  | 45 => ⟨S330000, .i32⟩
  | 46 => ⟨S330000, .i1⟩
  | 47 => ⟨S_, .i32⟩
  | 48 => ⟨S330000, .i32⟩
  | 49 => ⟨S330000, .i32⟩
  | 50 => ⟨S330000, .i32⟩
  | 51 => ⟨S330000x1, .i32⟩
  | 52 => ⟨S330000x8, .f32⟩
  | 53 => ⟨S330000x8, .f32⟩
  | 54 => ⟨S330000x8, .f32⟩
  | 55 => ⟨S_, .f32⟩
  | 56 => ⟨S330000x8, .f32⟩
  | 57 => ⟨S330000x8, .f32⟩
  | 58 => ⟨S330000x8, .f32⟩
  | 59 => ⟨S330000x8, .f32⟩
  | 60 => ⟨S_, .i32⟩
  | 61 => ⟨S330000, .i32⟩
  | 62 => ⟨S330000, .i1⟩
  | 63 => ⟨S_, .i32⟩
  | 64 => ⟨S330000, .i32⟩
  | 65 => ⟨S330000, .i32⟩
  | 66 => ⟨S330000, .i32⟩
  | 67 => ⟨S330000x1, .i32⟩
  | 68 => ⟨S330000x8x16, .f32⟩
  | 69 => ⟨S330000x8x1, .f32⟩
  | 70 => ⟨S330000x8x16, .f32⟩
  | 71 => ⟨S330000x8x16, .f32⟩
  | 72 => ⟨S_, .f32⟩
  | 73 => ⟨S10000x8x16, .f32⟩
  | 74 => ⟨S330000x1, .i32⟩
  | 75 => ⟨S10000x8x16, .f32⟩
  | 76 => ⟨S10000x128, .f32⟩
  | 77 => ⟨S1x128, .f32⟩
  | 78 => ⟨S10000x128, .f32⟩
  | 79 => ⟨S10000x128, .f32⟩
  | 80 => ⟨S_, .f32⟩
  | 81 => ⟨S128, .f32⟩
  | 82 => ⟨S_, .f32⟩
  | 83 => ⟨S128, .f32⟩
  | 84 => ⟨S128, .f32⟩
  | 85 => ⟨S_, .i32⟩
  | 86 => ⟨S_, .f32⟩
  | 87 => ⟨S128, .f32⟩
  | 88 => ⟨S1x128, .f32⟩
  | 89 => ⟨S_, .f32⟩
  | 90 => ⟨S1x128, .f32⟩
  | 91 => ⟨S1x128, .f32⟩
  | 92 => ⟨S10000x128, .f32⟩
  | 93 => ⟨S10000x128, .f32⟩
  | 94 => ⟨S10000x128, .f32⟩
  | 95 => ⟨S_, .f32⟩
  | 96 => ⟨S_, .f32⟩
  | 97 => ⟨S_, .f32⟩
  | 98 => ⟨S_, .f32⟩
  | 99 => ⟨S128, .f32⟩
  | 100 => ⟨S128, .f32⟩
  | 101 => ⟨S128, .f32⟩
  | 102 => ⟨S_, .f32⟩
  | 103 => ⟨S_, .i1⟩
  | 104 => ⟨S_, .f32⟩
  | 105 => ⟨S_, .f32⟩
  | 106 => ⟨S128, .f32⟩
  | 107 => ⟨S128, .f32⟩
  | 108 => ⟨S1x128, .f32⟩
  | 109 => ⟨S10000x128, .f32⟩
  | 110 => ⟨S10000x128, .f32⟩
  | 111 => ⟨S1x128, .f32⟩
  | 112 => ⟨S10000x128, .f32⟩
  | 113 => ⟨S10000x128, .f32⟩
  | 114 => ⟨S_, .f32⟩
  | 115 => ⟨S128, .f32⟩
  | 116 => ⟨S128, .f32⟩
  | 117 => ⟨S128, .f32⟩
  | 118 => ⟨S1x128, .f32⟩
  | 119 => ⟨S10000x128, .f32⟩
  | 120 => ⟨S10000x128, .f32⟩
  | 121 => ⟨S1x128, .f32⟩
  | 122 => ⟨S10000x128, .f32⟩
  | 123 => ⟨S10000x128, .f32⟩
  | 124 => ⟨S10000x128, .f32⟩
  | 125 => ⟨S_, .f32⟩
  | 126 => ⟨S10000x128, .f32⟩
  | 127 => ⟨S10000x128, .i1⟩
  | _ => ⟨S10000x128, .f32⟩

abbrev hbmTy0_3 (i : Nat) : BufTy := match i % 128 with
  | 0 => ⟨S_, .f32⟩
  | 1 => ⟨S10000x128, .f32⟩
  | 2 => ⟨S10000x128, .i1⟩
  | 3 => ⟨S_, .f32⟩
  | 4 => ⟨S_, .f32⟩
  | 5 => ⟨S10000x128, .f32⟩
  | 6 => ⟨S10000x128, .f32⟩
  | 7 => ⟨S10000x128, .f32⟩
  | 8 => ⟨S_, .f32⟩
  | 9 => ⟨S10000x128, .f32⟩
  | 10 => ⟨S10000x128, .f32⟩
  | 11 => ⟨S10000x128, .f32⟩
  | 12 => ⟨S10000x128, .f32⟩
  | 13 => ⟨S10000x8x16, .f32⟩
  | 14 => ⟨S1x8x16, .f32⟩
  | 15 => ⟨S10000x8x16, .f32⟩
  | 16 => ⟨S10000x8x16, .f32⟩
  | 17 => ⟨S_, .f32⟩
  | 18 => ⟨S10000x8, .f32⟩
  | 19 => ⟨S1x8x16, .f32⟩
  | 20 => ⟨S10000x8x16, .f32⟩
  | 21 => ⟨S10000x8x16, .f32⟩
  | 22 => ⟨S_, .f32⟩
  | 23 => ⟨S10000x8, .f32⟩
  | 24 => ⟨S_, .i32⟩
  | 25 => ⟨S330000, .i32⟩
  | 26 => ⟨S330000, .i1⟩
  | 27 => ⟨S_, .i32⟩
  | 28 => ⟨S330000, .i32⟩
  | 29 => ⟨S330000, .i32⟩
  | 30 => ⟨S330000, .i32⟩
  | 31 => ⟨S330000x1, .i32⟩
  | 32 => ⟨S330000x8, .f32⟩
  | 33 => ⟨S_, .i32⟩
  | 34 => ⟨S330000, .i32⟩
  | 35 => ⟨S330000, .i1⟩
  | 36 => ⟨S_, .i32⟩
  | 37 => ⟨S330000, .i32⟩
  | 38 => ⟨S330000, .i32⟩
  | 39 => ⟨S330000, .i32⟩
  | 40 => ⟨S330000x1, .i32⟩
  | 41 => ⟨S330000x8, .f32⟩
  | 42 => ⟨S330000x8, .f32⟩
  | 43 => ⟨S_, .f32⟩
  | 44 => ⟨S_, .f32⟩
  | 45 => ⟨S330000x8, .f32⟩
  | 46 => ⟨S330000x8, .i1⟩
  | 47 => ⟨S_, .f32⟩
  | 48 => ⟨S330000x8, .f32⟩
  | 49 => ⟨S330000x8, .f32⟩
  | 50 => ⟨S330000x8, .f32⟩
  | 51 => ⟨S10000, .i32⟩
  | 52 => ⟨S10000x1, .i32⟩
  | 53 => ⟨S1x330000, .i32⟩
  | 54 => ⟨S10000x330000, .i32⟩
  | 55 => ⟨S10000x330000, .i32⟩
  | 56 => ⟨S10000x330000, .i1⟩
  | 57 => ⟨S10000x330000x1, .i1⟩
  | 58 => ⟨S1x330000x8, .f32⟩
  | 59 => ⟨S_, .f32⟩
  | 60 => ⟨S_, .f32⟩
  | 61 => ⟨S10000x330000x8, .i1⟩
  | 62 => ⟨S10000x330000x8, .f32⟩
  | 63 => ⟨S10000x330000x8, .f32⟩
  | 64 => ⟨S10000x330000x8, .f32⟩
  | 65 => ⟨S_, .f32⟩
  | 66 => ⟨S10000x8, .f32⟩
  | 67 => ⟨S10000x8, .f32⟩
  | 68 => ⟨S_, .f32⟩
  | 69 => ⟨S10000x8, .f32⟩
  | 70 => ⟨S10000x8, .i1⟩
  | 71 => ⟨S_, .f32⟩
  | 72 => ⟨S_, .f32⟩
  | 73 => ⟨S10000x8, .f32⟩
  | 74 => ⟨S10000x8, .f32⟩
  | 75 => ⟨S_, .i32⟩
  | 76 => ⟨S330000, .i32⟩
  | 77 => ⟨S330000, .i1⟩
  | 78 => ⟨S_, .i32⟩
  | 79 => ⟨S330000, .i32⟩
  | 80 => ⟨S330000, .i32⟩
  | 81 => ⟨S330000, .i32⟩
  | 82 => ⟨S330000x1, .i32⟩
  | 83 => ⟨S330000x8, .f32⟩
  | 84 => ⟨S330000x8, .f32⟩
  | 85 => ⟨S330000x8, .f32⟩
  | 86 => ⟨S_, .f32⟩
  | 87 => ⟨S10000x8, .f32⟩
  | 88 => ⟨S330000x1, .i32⟩
  | 89 => ⟨S10000x8, .f32⟩
  | 90 => ⟨S_, .i32⟩
  | 91 => ⟨S330000, .i32⟩
  | 92 => ⟨S330000, .i1⟩
  | 93 => ⟨S_, .i32⟩
  | 94 => ⟨S330000, .i32⟩
  | 95 => ⟨S330000, .i32⟩
  | 96 => ⟨S330000, .i32⟩
  | 97 => ⟨S330000x1, .i32⟩
  | 98 => ⟨S330000x8, .f32⟩
  | 99 => ⟨S_, .i32⟩
  | 100 => ⟨S330000, .i32⟩
  | 101 => ⟨S330000, .i1⟩
  | 102 => ⟨S_, .i32⟩
  | 103 => ⟨S330000, .i32⟩
  | 104 => ⟨S330000, .i32⟩
  | 105 => ⟨S330000, .i32⟩
  | 106 => ⟨S330000x1, .i32⟩
  | 107 => ⟨S330000x8, .f32⟩
  | 108 => ⟨S330000x8, .f32⟩
  | 109 => ⟨S330000x8, .f32⟩
  | 110 => ⟨S_, .f32⟩
  | 111 => ⟨S330000x8, .f32⟩
  | 112 => ⟨S330000x8, .f32⟩
  | 113 => ⟨S330000x8, .f32⟩
  | 114 => ⟨S330000x8, .f32⟩
  | 115 => ⟨S_, .i32⟩
  | 116 => ⟨S330000, .i32⟩
  | 117 => ⟨S330000, .i1⟩
  | 118 => ⟨S_, .i32⟩
  | 119 => ⟨S330000, .i32⟩
  | 120 => ⟨S330000, .i32⟩
  | 121 => ⟨S330000, .i32⟩
  | 122 => ⟨S330000x1, .i32⟩
  | 123 => ⟨S330000x8x16, .f32⟩
  | 124 => ⟨S330000x8x1, .f32⟩
  | 125 => ⟨S330000x8x16, .f32⟩
  | 126 => ⟨S330000x8x16, .f32⟩
  | 127 => ⟨S_, .f32⟩
  | _ => ⟨S10000x128, .f32⟩

abbrev hbmTy0_4 (i : Nat) : BufTy := match i % 128 with
  | 0 => ⟨S10000x8x16, .f32⟩
  | 1 => ⟨S330000x1, .i32⟩
  | 2 => ⟨S10000x8x16, .f32⟩
  | 3 => ⟨S10000x128, .f32⟩
  | 4 => ⟨S1x128, .f32⟩
  | 5 => ⟨S10000x128, .f32⟩
  | 6 => ⟨S10000x128, .f32⟩
  | 7 => ⟨S_, .f32⟩
  | 8 => ⟨S128, .f32⟩
  | 9 => ⟨S_, .f32⟩
  | 10 => ⟨S128, .f32⟩
  | 11 => ⟨S128, .f32⟩
  | 12 => ⟨S_, .i32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S10000x128, .f32⟩
  | 20 => ⟨S10000x128, .f32⟩
  | 21 => ⟨S10000x128, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S128, .f32⟩
  | 29 => ⟨S_, .f32⟩
  | 30 => ⟨S_, .i1⟩
  | 31 => ⟨S_, .f32⟩
  | 32 => ⟨S_, .f32⟩
  | 33 => ⟨S128, .f32⟩
  | 34 => ⟨S128, .f32⟩
  | 35 => ⟨S1x128, .f32⟩
  | 36 => ⟨S10000x128, .f32⟩
  | 37 => ⟨S10000x128, .f32⟩
  | 38 => ⟨S1x128, .f32⟩
  | 39 => ⟨S10000x128, .f32⟩
  | 40 => ⟨S10000x128, .f32⟩
  | 41 => ⟨S_, .f32⟩
  | 42 => ⟨S128, .f32⟩
  | 43 => ⟨S128, .f32⟩
  | 44 => ⟨S128, .f32⟩
  | 45 => ⟨S1x128, .f32⟩
  | 46 => ⟨S10000x128, .f32⟩
  | 47 => ⟨S10000x128, .f32⟩
  | 48 => ⟨S1x128, .f32⟩
  | 49 => ⟨S10000x128, .f32⟩
  | 50 => ⟨S10000x128, .f32⟩
  | 51 => ⟨S10000x128, .f32⟩
  | 52 => ⟨S_, .f32⟩
  | 53 => ⟨S10000x128, .f32⟩
  | 54 => ⟨S10000x128, .i1⟩
  | 55 => ⟨S_, .f32⟩
  | 56 => ⟨S10000x128, .f32⟩
  | 57 => ⟨S10000x128, .i1⟩
  | 58 => ⟨S_, .f32⟩
  | 59 => ⟨S_, .f32⟩
  | 60 => ⟨S10000x128, .f32⟩
  | 61 => ⟨S10000x128, .f32⟩
  | 62 => ⟨S10000x128, .f32⟩
  | 63 => ⟨S_, .f32⟩
  | 64 => ⟨S10000x128, .f32⟩
  | 65 => ⟨S10000x128, .f32⟩
  | 66 => ⟨S10000x128, .f32⟩
  | 67 => ⟨S_, .f32⟩
  | 68 => ⟨S10000x1, .f32⟩
  | 69 => ⟨S_, .f32⟩
  | 70 => ⟨S64x128, .f32⟩
  | 71 => ⟨S10000x1, .i32⟩
  | 72 => ⟨S64x128, .f32⟩
  | 73 => ⟨S_, .f32⟩
  | 74 => ⟨S64x1, .f32⟩
  | 75 => ⟨S10000x1, .i32⟩
  | 76 => ⟨S64x1, .f32⟩
  | 77 => ⟨S_, .f32⟩
  | 78 => ⟨S64x1, .f32⟩
  | 79 => ⟨S64x1, .f32⟩
  | 80 => ⟨S64x128, .f32⟩
  | 81 => ⟨S64x128, .f32⟩
  | 82 => ⟨S64, .i32⟩
  | 83 => ⟨S64x1, .i32⟩
  | 84 => ⟨S1x10000, .i32⟩
  | 85 => ⟨S64x10000, .i32⟩
  | 86 => ⟨S64x10000, .i32⟩
  | 87 => ⟨S64x10000, .i1⟩
  | 88 => ⟨S64x10000x1, .i1⟩
  | 89 => ⟨S1x10000x128, .f32⟩
  | 90 => ⟨S_, .f32⟩
  | 91 => ⟨S_, .f32⟩
  | 92 => ⟨S64x10000x128, .i1⟩
  | 93 => ⟨S64x10000x128, .f32⟩
  | 94 => ⟨S64x10000x128, .f32⟩
  | 95 => ⟨S64x10000x128, .f32⟩
  | 96 => ⟨S_, .f32⟩
  | 97 => ⟨S64x128, .f32⟩
  | 98 => ⟨S64x384, .f32⟩
  | 99 => ⟨S64x10, .f32⟩
  | 100 => ⟨S1x10, .f32⟩
  | 101 => ⟨S64x10, .f32⟩
  | 102 => ⟨S64x10, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_0 : Ref sig .tc := ⟨.hbm, 41, rfl⟩
abbrev main_v16 : Ref sig .tc := ⟨.hbm, 42, rfl⟩
abbrev main_c : Ref sig .tc := ⟨.hbm, 43, rfl⟩
abbrev main_v17 : Ref sig .tc := ⟨.hbm, 44, rfl⟩
abbrev main_v18 : Ref sig .tc := ⟨.hbm, 45, rfl⟩
abbrev main_c_1 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_2 : Ref sig .tc := ⟨.hbm, 52, rfl⟩
abbrev main_v24 : Ref sig .tc := ⟨.hbm, 53, rfl⟩
abbrev main_v25 : Ref sig .tc := ⟨.hbm, 54, rfl⟩
abbrev main_c_3 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_4 : Ref sig .tc := ⟨.hbm, 62, rfl⟩
abbrev main_call0_cst : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_5 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_v41 : Ref sig .tc := ⟨.hbm, 83, rfl⟩
abbrev main_cst_6 : Ref sig .tc := ⟨.hbm, 84, rfl⟩
abbrev main_v42 : Ref sig .tc := ⟨.hbm, 85, rfl⟩
abbrev main_v43 : Ref sig .tc := ⟨.hbm, 86, rfl⟩
abbrev main_cst_7 : Ref sig .tc := ⟨.hbm, 87, rfl⟩
abbrev main_v44 : Ref sig .tc := ⟨.hbm, 88, rfl⟩
abbrev main_v45 : Ref sig .tc := ⟨.hbm, 89, rfl⟩
abbrev main_cst_8 : Ref sig .tc := ⟨.hbm, 90, rfl⟩
abbrev main_call2_v0 : Ref sig .tc := ⟨.hbm, 91, rfl⟩
abbrev main_call2_v1 : Ref sig .tc := ⟨.hbm, 92, rfl⟩
abbrev main_v46 : Ref sig .tc := ⟨.hbm, 93, rfl⟩
abbrev main_c_9 : Ref sig .tc := ⟨.hbm, 94, rfl⟩
abbrev main_v47 : Ref sig .tc := ⟨.hbm, 95, rfl⟩
abbrev main_v48 : Ref sig .tc := ⟨.hbm, 96, rfl⟩
abbrev main_c_10 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_11 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_c_12 : Ref sig .tc := ⟨.hbm, 109, rfl⟩
abbrev main_v59 : Ref sig .tc := ⟨.hbm, 110, rfl⟩
abbrev main_v60 : Ref sig .tc := ⟨.hbm, 111, rfl⟩
abbrev main_c_13 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_c_14 : Ref sig .tc := ⟨.hbm, 118, rfl⟩
abbrev main_v66 : Ref sig .tc := ⟨.hbm, 119, rfl⟩
abbrev main_v67 : Ref sig .tc := ⟨.hbm, 120, rfl⟩
abbrev main_c_15 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_cst_16 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_c_17 : Ref sig .tc := ⟨.hbm, 134, rfl⟩
abbrev main_v79 : Ref sig .tc := ⟨.hbm, 135, rfl⟩
abbrev main_v80 : Ref sig .tc := ⟨.hbm, 136, rfl⟩
abbrev main_c_18 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_cst_19 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_cst_20 : Ref sig .tc := ⟨.hbm, 154, rfl⟩
abbrev main_v96 : Ref sig .tc := ⟨.hbm, 155, rfl⟩
abbrev main_cst_21 : Ref sig .tc := ⟨.hbm, 156, rfl⟩
abbrev main_v97 : Ref sig .tc := ⟨.hbm, 157, rfl⟩
abbrev main_v98 : Ref sig .tc := ⟨.hbm, 158, rfl⟩
abbrev main_c_22 : Ref sig .tc := ⟨.hbm, 159, rfl⟩
abbrev main_call3_cst : Ref sig .tc := ⟨.hbm, 160, rfl⟩
abbrev main_call3_v0 : Ref sig .tc := ⟨.hbm, 161, rfl⟩
abbrev main_call3_v1 : Ref sig .tc := ⟨.hbm, 162, rfl⟩
abbrev main_call3_cst_0 : Ref sig .tc := ⟨.hbm, 163, rfl⟩
abbrev main_call3_v2 : Ref sig .tc := ⟨.hbm, 164, rfl⟩
abbrev main_call3_v3 : Ref sig .tc := ⟨.hbm, 165, rfl⟩
abbrev main_call3_v4 : Ref sig .tc := ⟨.hbm, 166, rfl⟩
abbrev main_call3_v5 : Ref sig .tc := ⟨.hbm, 167, rfl⟩
abbrev main_call3_v6 : Ref sig .tc := ⟨.hbm, 168, rfl⟩
abbrev main_call3_v7 : Ref sig .tc := ⟨.hbm, 169, rfl⟩
abbrev main_call3_cst_1 : Ref sig .tc := ⟨.hbm, 170, rfl⟩
abbrev main_call3_v8 : Ref sig .tc := ⟨.hbm, 171, rfl⟩
abbrev main_call3_cst_2 : Ref sig .tc := ⟨.hbm, 172, rfl⟩
abbrev main_call3_v9 : Ref sig .tc := ⟨.hbm, 173, rfl⟩
abbrev main_call3_v10 : Ref sig .tc := ⟨.hbm, 174, rfl⟩
abbrev main_call3_v11 : Ref sig .tc := ⟨.hbm, 175, rfl⟩
abbrev main_call3_cst_3 : Ref sig .tc := ⟨.hbm, 176, rfl⟩
abbrev main_call3_v12 : Ref sig .tc := ⟨.hbm, 177, rfl⟩
abbrev main_call3_cst_4 : Ref sig .tc := ⟨.hbm, 178, rfl⟩
abbrev main_call3_call0_v0 : Ref sig .tc := ⟨.hbm, 179, rfl⟩
abbrev main_call3_call0_v1 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_cst_23 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_call4_cst : Ref sig .tc := ⟨.hbm, 198, rfl⟩
abbrev main_call4_v0 : Ref sig .tc := ⟨.hbm, 199, rfl⟩
abbrev main_call4_v1 : Ref sig .tc := ⟨.hbm, 200, rfl⟩
abbrev main_call4_cst_0 : Ref sig .tc := ⟨.hbm, 201, rfl⟩
abbrev main_call4_v2 : Ref sig .tc := ⟨.hbm, 202, rfl⟩
abbrev main_call4_v3 : Ref sig .tc := ⟨.hbm, 203, rfl⟩
abbrev main_call4_cst_1 : Ref sig .tc := ⟨.hbm, 204, rfl⟩
abbrev main_call4_call0_v0 : Ref sig .tc := ⟨.hbm, 205, rfl⟩
abbrev main_call4_call0_v1 : Ref sig .tc := ⟨.hbm, 206, rfl⟩
abbrev main_call4_v4 : Ref sig .tc := ⟨.hbm, 207, rfl⟩
abbrev main_call4_v5 : Ref sig .tc := ⟨.hbm, 208, rfl⟩
abbrev main_call4_cst_2 : Ref sig .tc := ⟨.hbm, 209, rfl⟩
abbrev main_call4_v6 : Ref sig .tc := ⟨.hbm, 210, rfl⟩
abbrev main_call4_v7 : Ref sig .tc := ⟨.hbm, 211, rfl⟩
abbrev main_v115 : Ref sig .tc := ⟨.hbm, 212, rfl⟩
abbrev main_v116 : Ref sig .tc := ⟨.hbm, 213, rfl⟩
abbrev main_v117 : Ref sig .tc := ⟨.hbm, 214, rfl⟩
abbrev main_v118 : Ref sig .tc := ⟨.hbm, 215, rfl⟩
abbrev main_v119 : Ref sig .tc := ⟨.hbm, 216, rfl⟩
abbrev main_v120 : Ref sig .tc := ⟨.hbm, 217, rfl⟩
abbrev main_cst_24 : Ref sig .tc := ⟨.hbm, 218, rfl⟩
abbrev main_v121 : Ref sig .tc := ⟨.hbm, 219, rfl⟩
abbrev main_v122 : Ref sig .tc := ⟨.hbm, 220, rfl⟩
abbrev main_v123 : Ref sig .tc := ⟨.hbm, 221, rfl⟩
abbrev main_v124 : Ref sig .tc := ⟨.hbm, 222, rfl⟩
abbrev main_cst_25 : Ref sig .tc := ⟨.hbm, 223, rfl⟩
abbrev main_v125 : Ref sig .tc := ⟨.hbm, 224, rfl⟩
abbrev main_c_26 : Ref sig .tc := ⟨.hbm, 225, rfl⟩
abbrev main_v126 : Ref sig .tc := ⟨.hbm, 226, rfl⟩
abbrev main_v127 : Ref sig .tc := ⟨.hbm, 227, rfl⟩
abbrev main_c_27 : Ref sig .tc := ⟨.hbm, 228, rfl⟩
abbrev main_v128 : Ref sig .tc := ⟨.hbm, 229, rfl⟩
abbrev main_v129 : Ref sig .tc := ⟨.hbm, 230, rfl⟩
abbrev main_v130 : Ref sig .tc := ⟨.hbm, 231, rfl⟩
abbrev main_v131 : Ref sig .tc := ⟨.hbm, 232, rfl⟩
abbrev main_v132 : Ref sig .tc := ⟨.hbm, 233, rfl⟩
abbrev main_c_28 : Ref sig .tc := ⟨.hbm, 234, rfl⟩
abbrev main_v133 : Ref sig .tc := ⟨.hbm, 235, rfl⟩
abbrev main_v134 : Ref sig .tc := ⟨.hbm, 236, rfl⟩
abbrev main_c_29 : Ref sig .tc := ⟨.hbm, 237, rfl⟩
abbrev main_v135 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩
abbrev main_v139 : Ref sig .tc := ⟨.hbm, 242, rfl⟩
abbrev main_v140 : Ref sig .tc := ⟨.hbm, 243, rfl⟩
abbrev main_cst_30 : Ref sig .tc := ⟨.hbm, 244, rfl⟩
abbrev main_call5_cst : Ref sig .tc := ⟨.hbm, 245, rfl⟩
abbrev main_call5_v0 : Ref sig .tc := ⟨.hbm, 246, rfl⟩
abbrev main_call5_v1 : Ref sig .tc := ⟨.hbm, 247, rfl⟩
abbrev main_call5_v2 : Ref sig .tc := ⟨.hbm, 248, rfl⟩
abbrev main_call5_v3 : Ref sig .tc := ⟨.hbm, 249, rfl⟩
abbrev main_call5_v4 : Ref sig .tc := ⟨.hbm, 250, rfl⟩
abbrev main_v141 : Ref sig .tc := ⟨.hbm, 251, rfl⟩
abbrev main_v142 : Ref sig .tc := ⟨.hbm, 252, rfl⟩
abbrev main_v143 : Ref sig .tc := ⟨.hbm, 253, rfl⟩
abbrev main_v144 : Ref sig .tc := ⟨.hbm, 254, rfl⟩
abbrev main_v145 : Ref sig .tc := ⟨.hbm, 255, rfl⟩
abbrev main_v146 : Ref sig .tc := ⟨.hbm, 256, rfl⟩
abbrev main_v147 : Ref sig .tc := ⟨.hbm, 257, rfl⟩
abbrev main_v148 : Ref sig .tc := ⟨.hbm, 258, rfl⟩
abbrev main_v149 : Ref sig .tc := ⟨.hbm, 259, rfl⟩
abbrev main_cst_31 : Ref sig .tc := ⟨.hbm, 260, rfl⟩
abbrev main_call6_v0 : Ref sig .tc := ⟨.hbm, 261, rfl⟩
abbrev main_call6_v1 : Ref sig .tc := ⟨.hbm, 262, rfl⟩
abbrev main_call6_v2 : Ref sig .tc := ⟨.hbm, 263, rfl⟩
abbrev main_call6_v3 : Ref sig .tc := ⟨.hbm, 264, rfl⟩
abbrev main_v150 : Ref sig .tc := ⟨.hbm, 265, rfl⟩
abbrev main_cst_32 : Ref sig .tc := ⟨.hbm, 266, rfl⟩
abbrev main_v151 : Ref sig .tc := ⟨.hbm, 267, rfl⟩
abbrev main_v152 : Ref sig .tc := ⟨.hbm, 268, rfl⟩
abbrev main_cst_33 : Ref sig .tc := ⟨.hbm, 269, rfl⟩
abbrev main_v153 : Ref sig .tc := ⟨.hbm, 270, rfl⟩
abbrev main_v154 : Ref sig .tc := ⟨.hbm, 271, rfl⟩
abbrev main_cst_34 : Ref sig .tc := ⟨.hbm, 272, rfl⟩
abbrev main_call7_v0 : Ref sig .tc := ⟨.hbm, 273, rfl⟩
abbrev main_call7_v1 : Ref sig .tc := ⟨.hbm, 274, rfl⟩
abbrev main_v155 : Ref sig .tc := ⟨.hbm, 275, rfl⟩
abbrev main_c_35 : Ref sig .tc := ⟨.hbm, 276, rfl⟩
abbrev main_v156 : Ref sig .tc := ⟨.hbm, 277, rfl⟩
abbrev main_v157 : Ref sig .tc := ⟨.hbm, 278, rfl⟩
abbrev main_c_36 : Ref sig .tc := ⟨.hbm, 279, rfl⟩
abbrev main_v158 : Ref sig .tc := ⟨.hbm, 280, rfl⟩
abbrev main_v159 : Ref sig .tc := ⟨.hbm, 281, rfl⟩
abbrev main_v160 : Ref sig .tc := ⟨.hbm, 282, rfl⟩
abbrev main_v161 : Ref sig .tc := ⟨.hbm, 283, rfl⟩
abbrev main_v162 : Ref sig .tc := ⟨.hbm, 284, rfl⟩
abbrev main_v163 : Ref sig .tc := ⟨.hbm, 285, rfl⟩
abbrev main_v164 : Ref sig .tc := ⟨.hbm, 286, rfl⟩
abbrev main_cst_37 : Ref sig .tc := ⟨.hbm, 287, rfl⟩
abbrev main_v165 : Ref sig .tc := ⟨.hbm, 288, rfl⟩
abbrev main_v166 : Ref sig .tc := ⟨.hbm, 289, rfl⟩
abbrev main_v167 : Ref sig .tc := ⟨.hbm, 290, rfl⟩
abbrev main_c_38 : Ref sig .tc := ⟨.hbm, 291, rfl⟩
abbrev main_v168 : Ref sig .tc := ⟨.hbm, 292, rfl⟩
abbrev main_v169 : Ref sig .tc := ⟨.hbm, 293, rfl⟩
abbrev main_c_39 : Ref sig .tc := ⟨.hbm, 294, rfl⟩
abbrev main_v170 : Ref sig .tc := ⟨.hbm, 295, rfl⟩
abbrev main_v171 : Ref sig .tc := ⟨.hbm, 296, rfl⟩
abbrev main_v172 : Ref sig .tc := ⟨.hbm, 297, rfl⟩
abbrev main_v173 : Ref sig .tc := ⟨.hbm, 298, rfl⟩
abbrev main_v174 : Ref sig .tc := ⟨.hbm, 299, rfl⟩
abbrev main_c_40 : Ref sig .tc := ⟨.hbm, 300, rfl⟩
abbrev main_v175 : Ref sig .tc := ⟨.hbm, 301, rfl⟩
abbrev main_v176 : Ref sig .tc := ⟨.hbm, 302, rfl⟩
abbrev main_c_41 : Ref sig .tc := ⟨.hbm, 303, rfl⟩
abbrev main_v177 : Ref sig .tc := ⟨.hbm, 304, rfl⟩
abbrev main_v178 : Ref sig .tc := ⟨.hbm, 305, rfl⟩
abbrev main_v179 : Ref sig .tc := ⟨.hbm, 306, rfl⟩
abbrev main_v180 : Ref sig .tc := ⟨.hbm, 307, rfl⟩
abbrev main_v181 : Ref sig .tc := ⟨.hbm, 308, rfl⟩
abbrev main_v182 : Ref sig .tc := ⟨.hbm, 309, rfl⟩
abbrev main_v183 : Ref sig .tc := ⟨.hbm, 310, rfl⟩
abbrev main_cst_42 : Ref sig .tc := ⟨.hbm, 311, rfl⟩
abbrev main_v184 : Ref sig .tc := ⟨.hbm, 312, rfl⟩
abbrev main_v185 : Ref sig .tc := ⟨.hbm, 313, rfl⟩
abbrev main_v186 : Ref sig .tc := ⟨.hbm, 314, rfl⟩
abbrev main_v187 : Ref sig .tc := ⟨.hbm, 315, rfl⟩
abbrev main_c_43 : Ref sig .tc := ⟨.hbm, 316, rfl⟩
abbrev main_v188 : Ref sig .tc := ⟨.hbm, 317, rfl⟩
abbrev main_v189 : Ref sig .tc := ⟨.hbm, 318, rfl⟩
abbrev main_c_44 : Ref sig .tc := ⟨.hbm, 319, rfl⟩
abbrev main_v190 : Ref sig .tc := ⟨.hbm, 320, rfl⟩
abbrev main_v191 : Ref sig .tc := ⟨.hbm, 321, rfl⟩
abbrev main_v192 : Ref sig .tc := ⟨.hbm, 322, rfl⟩
abbrev main_v193 : Ref sig .tc := ⟨.hbm, 323, rfl⟩
abbrev main_v194 : Ref sig .tc := ⟨.hbm, 324, rfl⟩
abbrev main_v195 : Ref sig .tc := ⟨.hbm, 325, rfl⟩
abbrev main_v196 : Ref sig .tc := ⟨.hbm, 326, rfl⟩
abbrev main_v197 : Ref sig .tc := ⟨.hbm, 327, rfl⟩
abbrev main_cst_45 : Ref sig .tc := ⟨.hbm, 328, rfl⟩
abbrev main_v198 : Ref sig .tc := ⟨.hbm, 329, rfl⟩
abbrev main_v199 : Ref sig .tc := ⟨.hbm, 330, rfl⟩
abbrev main_v200 : Ref sig .tc := ⟨.hbm, 331, rfl⟩
abbrev main_v201 : Ref sig .tc := ⟨.hbm, 332, rfl⟩
abbrev main_v202 : Ref sig .tc := ⟨.hbm, 333, rfl⟩
abbrev main_v203 : Ref sig .tc := ⟨.hbm, 334, rfl⟩
abbrev main_v204 : Ref sig .tc := ⟨.hbm, 335, rfl⟩
abbrev main_cst_46 : Ref sig .tc := ⟨.hbm, 336, rfl⟩
abbrev main_v205 : Ref sig .tc := ⟨.hbm, 337, rfl⟩
abbrev main_cst_47 : Ref sig .tc := ⟨.hbm, 338, rfl⟩
abbrev main_v206 : Ref sig .tc := ⟨.hbm, 339, rfl⟩
abbrev main_v207 : Ref sig .tc := ⟨.hbm, 340, rfl⟩
abbrev main_c_48 : Ref sig .tc := ⟨.hbm, 341, rfl⟩
abbrev main_call8_cst : Ref sig .tc := ⟨.hbm, 342, rfl⟩
abbrev main_call8_v0 : Ref sig .tc := ⟨.hbm, 343, rfl⟩
abbrev main_call8_v1 : Ref sig .tc := ⟨.hbm, 344, rfl⟩
abbrev main_call8_cst_0 : Ref sig .tc := ⟨.hbm, 345, rfl⟩
abbrev main_call8_v2 : Ref sig .tc := ⟨.hbm, 346, rfl⟩
abbrev main_call8_v3 : Ref sig .tc := ⟨.hbm, 347, rfl⟩
abbrev main_call8_v4 : Ref sig .tc := ⟨.hbm, 348, rfl⟩
abbrev main_call8_v5 : Ref sig .tc := ⟨.hbm, 349, rfl⟩
abbrev main_call8_v6 : Ref sig .tc := ⟨.hbm, 350, rfl⟩
abbrev main_call8_v7 : Ref sig .tc := ⟨.hbm, 351, rfl⟩
abbrev main_call8_cst_1 : Ref sig .tc := ⟨.hbm, 352, rfl⟩
abbrev main_call8_v8 : Ref sig .tc := ⟨.hbm, 353, rfl⟩
abbrev main_call8_cst_2 : Ref sig .tc := ⟨.hbm, 354, rfl⟩
abbrev main_call8_v9 : Ref sig .tc := ⟨.hbm, 355, rfl⟩
abbrev main_call8_v10 : Ref sig .tc := ⟨.hbm, 356, rfl⟩
abbrev main_call8_v11 : Ref sig .tc := ⟨.hbm, 357, rfl⟩
abbrev main_call8_cst_3 : Ref sig .tc := ⟨.hbm, 358, rfl⟩
abbrev main_call8_v12 : Ref sig .tc := ⟨.hbm, 359, rfl⟩
abbrev main_call8_cst_4 : Ref sig .tc := ⟨.hbm, 360, rfl⟩
abbrev main_call8_call0_v0 : Ref sig .tc := ⟨.hbm, 361, rfl⟩
abbrev main_call8_call0_v1 : Ref sig .tc := ⟨.hbm, 362, rfl⟩
abbrev main_v208 : Ref sig .tc := ⟨.hbm, 363, rfl⟩
abbrev main_v209 : Ref sig .tc := ⟨.hbm, 364, rfl⟩
abbrev main_v210 : Ref sig .tc := ⟨.hbm, 365, rfl⟩
abbrev main_v211 : Ref sig .tc := ⟨.hbm, 366, rfl⟩
abbrev main_v212 : Ref sig .tc := ⟨.hbm, 367, rfl⟩
abbrev main_v213 : Ref sig .tc := ⟨.hbm, 368, rfl⟩
abbrev main_v214 : Ref sig .tc := ⟨.hbm, 369, rfl⟩
abbrev main_cst_49 : Ref sig .tc := ⟨.hbm, 370, rfl⟩
abbrev main_v215 : Ref sig .tc := ⟨.hbm, 371, rfl⟩
abbrev main_v216 : Ref sig .tc := ⟨.hbm, 372, rfl⟩
abbrev main_v217 : Ref sig .tc := ⟨.hbm, 373, rfl⟩
abbrev main_v218 : Ref sig .tc := ⟨.hbm, 374, rfl⟩
abbrev main_v219 : Ref sig .tc := ⟨.hbm, 375, rfl⟩
abbrev main_v220 : Ref sig .tc := ⟨.hbm, 376, rfl⟩
abbrev main_v221 : Ref sig .tc := ⟨.hbm, 377, rfl⟩
abbrev main_v222 : Ref sig .tc := ⟨.hbm, 378, rfl⟩
abbrev main_v223 : Ref sig .tc := ⟨.hbm, 379, rfl⟩
abbrev main_v224 : Ref sig .tc := ⟨.hbm, 380, rfl⟩
abbrev main_call9_cst : Ref sig .tc := ⟨.hbm, 381, rfl⟩
abbrev main_call9_v0 : Ref sig .tc := ⟨.hbm, 382, rfl⟩
abbrev main_call9_v1 : Ref sig .tc := ⟨.hbm, 383, rfl⟩
abbrev main_call9_cst_0 : Ref sig .tc := ⟨.hbm, 384, rfl⟩
abbrev main_call9_v2 : Ref sig .tc := ⟨.hbm, 385, rfl⟩
abbrev main_call9_v3 : Ref sig .tc := ⟨.hbm, 386, rfl⟩
abbrev main_call9_cst_1 : Ref sig .tc := ⟨.hbm, 387, rfl⟩
abbrev main_call9_call0_v0 : Ref sig .tc := ⟨.hbm, 388, rfl⟩
abbrev main_call9_call0_v1 : Ref sig .tc := ⟨.hbm, 389, rfl⟩
abbrev main_call9_v4 : Ref sig .tc := ⟨.hbm, 390, rfl⟩
abbrev main_call9_v5 : Ref sig .tc := ⟨.hbm, 391, rfl⟩
abbrev main_call9_cst_2 : Ref sig .tc := ⟨.hbm, 392, rfl⟩
abbrev main_call9_v6 : Ref sig .tc := ⟨.hbm, 393, rfl⟩
abbrev main_call9_v7 : Ref sig .tc := ⟨.hbm, 394, rfl⟩
abbrev main_v225 : Ref sig .tc := ⟨.hbm, 395, rfl⟩
abbrev main_v226 : Ref sig .tc := ⟨.hbm, 396, rfl⟩
abbrev main_v227 : Ref sig .tc := ⟨.hbm, 397, rfl⟩
abbrev main_v228 : Ref sig .tc := ⟨.hbm, 398, rfl⟩
abbrev main_v229 : Ref sig .tc := ⟨.hbm, 399, rfl⟩
abbrev main_v230 : Ref sig .tc := ⟨.hbm, 400, rfl⟩
abbrev main_cst_50 : Ref sig .tc := ⟨.hbm, 401, rfl⟩
abbrev main_v231 : Ref sig .tc := ⟨.hbm, 402, rfl⟩
abbrev main_v232 : Ref sig .tc := ⟨.hbm, 403, rfl⟩
abbrev main_v233 : Ref sig .tc := ⟨.hbm, 404, rfl⟩
abbrev main_v234 : Ref sig .tc := ⟨.hbm, 405, rfl⟩
abbrev main_cst_51 : Ref sig .tc := ⟨.hbm, 406, rfl⟩
abbrev main_v235 : Ref sig .tc := ⟨.hbm, 407, rfl⟩
abbrev main_c_52 : Ref sig .tc := ⟨.hbm, 408, rfl⟩
abbrev main_v236 : Ref sig .tc := ⟨.hbm, 409, rfl⟩
abbrev main_v237 : Ref sig .tc := ⟨.hbm, 410, rfl⟩
abbrev main_c_53 : Ref sig .tc := ⟨.hbm, 411, rfl⟩
abbrev main_v238 : Ref sig .tc := ⟨.hbm, 412, rfl⟩
abbrev main_v239 : Ref sig .tc := ⟨.hbm, 413, rfl⟩
abbrev main_v240 : Ref sig .tc := ⟨.hbm, 414, rfl⟩
abbrev main_v241 : Ref sig .tc := ⟨.hbm, 415, rfl⟩
abbrev main_v242 : Ref sig .tc := ⟨.hbm, 416, rfl⟩
abbrev main_c_54 : Ref sig .tc := ⟨.hbm, 417, rfl⟩
abbrev main_v243 : Ref sig .tc := ⟨.hbm, 418, rfl⟩
abbrev main_v244 : Ref sig .tc := ⟨.hbm, 419, rfl⟩
abbrev main_c_55 : Ref sig .tc := ⟨.hbm, 420, rfl⟩
abbrev main_v245 : Ref sig .tc := ⟨.hbm, 421, rfl⟩
abbrev main_v246 : Ref sig .tc := ⟨.hbm, 422, rfl⟩
abbrev main_v247 : Ref sig .tc := ⟨.hbm, 423, rfl⟩
abbrev main_v248 : Ref sig .tc := ⟨.hbm, 424, rfl⟩
abbrev main_v249 : Ref sig .tc := ⟨.hbm, 425, rfl⟩
abbrev main_v250 : Ref sig .tc := ⟨.hbm, 426, rfl⟩
abbrev main_cst_56 : Ref sig .tc := ⟨.hbm, 427, rfl⟩
abbrev main_call10_cst : Ref sig .tc := ⟨.hbm, 428, rfl⟩
abbrev main_call10_v0 : Ref sig .tc := ⟨.hbm, 429, rfl⟩
abbrev main_call10_v1 : Ref sig .tc := ⟨.hbm, 430, rfl⟩
abbrev main_call10_v2 : Ref sig .tc := ⟨.hbm, 431, rfl⟩
abbrev main_call10_v3 : Ref sig .tc := ⟨.hbm, 432, rfl⟩
abbrev main_call10_v4 : Ref sig .tc := ⟨.hbm, 433, rfl⟩
abbrev main_v251 : Ref sig .tc := ⟨.hbm, 434, rfl⟩
abbrev main_v252 : Ref sig .tc := ⟨.hbm, 435, rfl⟩
abbrev main_v253 : Ref sig .tc := ⟨.hbm, 436, rfl⟩
abbrev main_v254 : Ref sig .tc := ⟨.hbm, 437, rfl⟩
abbrev main_v255 : Ref sig .tc := ⟨.hbm, 438, rfl⟩
abbrev main_v256 : Ref sig .tc := ⟨.hbm, 439, rfl⟩
abbrev main_v257 : Ref sig .tc := ⟨.hbm, 440, rfl⟩
abbrev main_v258 : Ref sig .tc := ⟨.hbm, 441, rfl⟩
abbrev main_v259 : Ref sig .tc := ⟨.hbm, 442, rfl⟩
abbrev main_cst_57 : Ref sig .tc := ⟨.hbm, 443, rfl⟩
abbrev main_call11_v0 : Ref sig .tc := ⟨.hbm, 444, rfl⟩
abbrev main_call11_v1 : Ref sig .tc := ⟨.hbm, 445, rfl⟩
abbrev main_call11_v2 : Ref sig .tc := ⟨.hbm, 446, rfl⟩
abbrev main_call11_v3 : Ref sig .tc := ⟨.hbm, 447, rfl⟩
abbrev main_v260 : Ref sig .tc := ⟨.hbm, 448, rfl⟩
abbrev main_cst_58 : Ref sig .tc := ⟨.hbm, 449, rfl⟩
abbrev main_v261 : Ref sig .tc := ⟨.hbm, 450, rfl⟩
abbrev main_v262 : Ref sig .tc := ⟨.hbm, 451, rfl⟩
abbrev main_cst_59 : Ref sig .tc := ⟨.hbm, 452, rfl⟩
abbrev main_v263 : Ref sig .tc := ⟨.hbm, 453, rfl⟩
abbrev main_v264 : Ref sig .tc := ⟨.hbm, 454, rfl⟩
abbrev main_cst_60 : Ref sig .tc := ⟨.hbm, 455, rfl⟩
abbrev main_call12_v0 : Ref sig .tc := ⟨.hbm, 456, rfl⟩
abbrev main_call12_v1 : Ref sig .tc := ⟨.hbm, 457, rfl⟩
abbrev main_v265 : Ref sig .tc := ⟨.hbm, 458, rfl⟩
abbrev main_c_61 : Ref sig .tc := ⟨.hbm, 459, rfl⟩
abbrev main_v266 : Ref sig .tc := ⟨.hbm, 460, rfl⟩
abbrev main_v267 : Ref sig .tc := ⟨.hbm, 461, rfl⟩
abbrev main_c_62 : Ref sig .tc := ⟨.hbm, 462, rfl⟩
abbrev main_v268 : Ref sig .tc := ⟨.hbm, 463, rfl⟩
abbrev main_v269 : Ref sig .tc := ⟨.hbm, 464, rfl⟩
abbrev main_v270 : Ref sig .tc := ⟨.hbm, 465, rfl⟩
abbrev main_v271 : Ref sig .tc := ⟨.hbm, 466, rfl⟩
abbrev main_v272 : Ref sig .tc := ⟨.hbm, 467, rfl⟩
abbrev main_v273 : Ref sig .tc := ⟨.hbm, 468, rfl⟩
abbrev main_v274 : Ref sig .tc := ⟨.hbm, 469, rfl⟩
abbrev main_cst_63 : Ref sig .tc := ⟨.hbm, 470, rfl⟩
abbrev main_v275 : Ref sig .tc := ⟨.hbm, 471, rfl⟩
abbrev main_v276 : Ref sig .tc := ⟨.hbm, 472, rfl⟩
abbrev main_v277 : Ref sig .tc := ⟨.hbm, 473, rfl⟩
abbrev main_c_64 : Ref sig .tc := ⟨.hbm, 474, rfl⟩
abbrev main_v278 : Ref sig .tc := ⟨.hbm, 475, rfl⟩
abbrev main_v279 : Ref sig .tc := ⟨.hbm, 476, rfl⟩
abbrev main_c_65 : Ref sig .tc := ⟨.hbm, 477, rfl⟩
abbrev main_v280 : Ref sig .tc := ⟨.hbm, 478, rfl⟩
abbrev main_v281 : Ref sig .tc := ⟨.hbm, 479, rfl⟩
abbrev main_v282 : Ref sig .tc := ⟨.hbm, 480, rfl⟩
abbrev main_v283 : Ref sig .tc := ⟨.hbm, 481, rfl⟩
abbrev main_v284 : Ref sig .tc := ⟨.hbm, 482, rfl⟩
abbrev main_c_66 : Ref sig .tc := ⟨.hbm, 483, rfl⟩
abbrev main_v285 : Ref sig .tc := ⟨.hbm, 484, rfl⟩
abbrev main_v286 : Ref sig .tc := ⟨.hbm, 485, rfl⟩
abbrev main_c_67 : Ref sig .tc := ⟨.hbm, 486, rfl⟩
abbrev main_v287 : Ref sig .tc := ⟨.hbm, 487, rfl⟩
abbrev main_v288 : Ref sig .tc := ⟨.hbm, 488, rfl⟩
abbrev main_v289 : Ref sig .tc := ⟨.hbm, 489, rfl⟩
abbrev main_v290 : Ref sig .tc := ⟨.hbm, 490, rfl⟩
abbrev main_v291 : Ref sig .tc := ⟨.hbm, 491, rfl⟩
abbrev main_v292 : Ref sig .tc := ⟨.hbm, 492, rfl⟩
abbrev main_v293 : Ref sig .tc := ⟨.hbm, 493, rfl⟩
abbrev main_cst_68 : Ref sig .tc := ⟨.hbm, 494, rfl⟩
abbrev main_v294 : Ref sig .tc := ⟨.hbm, 495, rfl⟩
abbrev main_v295 : Ref sig .tc := ⟨.hbm, 496, rfl⟩
abbrev main_v296 : Ref sig .tc := ⟨.hbm, 497, rfl⟩
abbrev main_v297 : Ref sig .tc := ⟨.hbm, 498, rfl⟩
abbrev main_c_69 : Ref sig .tc := ⟨.hbm, 499, rfl⟩
abbrev main_v298 : Ref sig .tc := ⟨.hbm, 500, rfl⟩
abbrev main_v299 : Ref sig .tc := ⟨.hbm, 501, rfl⟩
abbrev main_c_70 : Ref sig .tc := ⟨.hbm, 502, rfl⟩
abbrev main_v300 : Ref sig .tc := ⟨.hbm, 503, rfl⟩
abbrev main_v301 : Ref sig .tc := ⟨.hbm, 504, rfl⟩
abbrev main_v302 : Ref sig .tc := ⟨.hbm, 505, rfl⟩
abbrev main_v303 : Ref sig .tc := ⟨.hbm, 506, rfl⟩
abbrev main_v304 : Ref sig .tc := ⟨.hbm, 507, rfl⟩
abbrev main_v305 : Ref sig .tc := ⟨.hbm, 508, rfl⟩
abbrev main_v306 : Ref sig .tc := ⟨.hbm, 509, rfl⟩
abbrev main_v307 : Ref sig .tc := ⟨.hbm, 510, rfl⟩
abbrev main_cst_71 : Ref sig .tc := ⟨.hbm, 511, rfl⟩
abbrev main_v308 : Ref sig .tc := ⟨.hbm, 512, rfl⟩
abbrev main_v309 : Ref sig .tc := ⟨.hbm, 513, rfl⟩
abbrev main_v310 : Ref sig .tc := ⟨.hbm, 514, rfl⟩
abbrev main_v311 : Ref sig .tc := ⟨.hbm, 515, rfl⟩
abbrev main_v312 : Ref sig .tc := ⟨.hbm, 516, rfl⟩
abbrev main_v313 : Ref sig .tc := ⟨.hbm, 517, rfl⟩
abbrev main_v314 : Ref sig .tc := ⟨.hbm, 518, rfl⟩
abbrev main_cst_72 : Ref sig .tc := ⟨.hbm, 519, rfl⟩
abbrev main_v315 : Ref sig .tc := ⟨.hbm, 520, rfl⟩
abbrev main_cst_73 : Ref sig .tc := ⟨.hbm, 521, rfl⟩
abbrev main_v316 : Ref sig .tc := ⟨.hbm, 522, rfl⟩
abbrev main_v317 : Ref sig .tc := ⟨.hbm, 523, rfl⟩
abbrev main_c_74 : Ref sig .tc := ⟨.hbm, 524, rfl⟩
abbrev main_call13_cst : Ref sig .tc := ⟨.hbm, 525, rfl⟩
abbrev main_call13_v0 : Ref sig .tc := ⟨.hbm, 526, rfl⟩
abbrev main_call13_v1 : Ref sig .tc := ⟨.hbm, 527, rfl⟩
abbrev main_call13_cst_0 : Ref sig .tc := ⟨.hbm, 528, rfl⟩
abbrev main_call13_v2 : Ref sig .tc := ⟨.hbm, 529, rfl⟩
abbrev main_call13_v3 : Ref sig .tc := ⟨.hbm, 530, rfl⟩
abbrev main_call13_v4 : Ref sig .tc := ⟨.hbm, 531, rfl⟩
abbrev main_call13_v5 : Ref sig .tc := ⟨.hbm, 532, rfl⟩
abbrev main_call13_v6 : Ref sig .tc := ⟨.hbm, 533, rfl⟩
abbrev main_call13_v7 : Ref sig .tc := ⟨.hbm, 534, rfl⟩
abbrev main_call13_cst_1 : Ref sig .tc := ⟨.hbm, 535, rfl⟩
abbrev main_call13_v8 : Ref sig .tc := ⟨.hbm, 536, rfl⟩
abbrev main_call13_cst_2 : Ref sig .tc := ⟨.hbm, 537, rfl⟩
abbrev main_call13_v9 : Ref sig .tc := ⟨.hbm, 538, rfl⟩
abbrev main_call13_v10 : Ref sig .tc := ⟨.hbm, 539, rfl⟩
abbrev main_call13_v11 : Ref sig .tc := ⟨.hbm, 540, rfl⟩
abbrev main_call13_cst_3 : Ref sig .tc := ⟨.hbm, 541, rfl⟩
abbrev main_call13_v12 : Ref sig .tc := ⟨.hbm, 542, rfl⟩
abbrev main_call13_cst_4 : Ref sig .tc := ⟨.hbm, 543, rfl⟩
abbrev main_call13_call0_v0 : Ref sig .tc := ⟨.hbm, 544, rfl⟩
abbrev main_call13_call0_v1 : Ref sig .tc := ⟨.hbm, 545, rfl⟩
abbrev main_v318 : Ref sig .tc := ⟨.hbm, 546, rfl⟩
abbrev main_v319 : Ref sig .tc := ⟨.hbm, 547, rfl⟩
abbrev main_v320 : Ref sig .tc := ⟨.hbm, 548, rfl⟩
abbrev main_v321 : Ref sig .tc := ⟨.hbm, 549, rfl⟩
abbrev main_v322 : Ref sig .tc := ⟨.hbm, 550, rfl⟩
abbrev main_v323 : Ref sig .tc := ⟨.hbm, 551, rfl⟩
abbrev main_v324 : Ref sig .tc := ⟨.hbm, 552, rfl⟩
abbrev main_cst_75 : Ref sig .tc := ⟨.hbm, 553, rfl⟩
abbrev main_v325 : Ref sig .tc := ⟨.hbm, 554, rfl⟩
abbrev main_v326 : Ref sig .tc := ⟨.hbm, 555, rfl⟩
abbrev main_v327 : Ref sig .tc := ⟨.hbm, 556, rfl⟩
abbrev main_v328 : Ref sig .tc := ⟨.hbm, 557, rfl⟩
abbrev main_v329 : Ref sig .tc := ⟨.hbm, 558, rfl⟩
abbrev main_v330 : Ref sig .tc := ⟨.hbm, 559, rfl⟩
abbrev main_v331 : Ref sig .tc := ⟨.hbm, 560, rfl⟩
abbrev main_v332 : Ref sig .tc := ⟨.hbm, 561, rfl⟩
abbrev main_v333 : Ref sig .tc := ⟨.hbm, 562, rfl⟩
abbrev main_v334 : Ref sig .tc := ⟨.hbm, 563, rfl⟩
abbrev main_call14_cst : Ref sig .tc := ⟨.hbm, 564, rfl⟩
abbrev main_call14_v0 : Ref sig .tc := ⟨.hbm, 565, rfl⟩
abbrev main_call14_v1 : Ref sig .tc := ⟨.hbm, 566, rfl⟩
abbrev main_call14_cst_0 : Ref sig .tc := ⟨.hbm, 567, rfl⟩
abbrev main_call14_v2 : Ref sig .tc := ⟨.hbm, 568, rfl⟩
abbrev main_call14_v3 : Ref sig .tc := ⟨.hbm, 569, rfl⟩
abbrev main_call14_cst_1 : Ref sig .tc := ⟨.hbm, 570, rfl⟩
abbrev main_call14_call0_v0 : Ref sig .tc := ⟨.hbm, 571, rfl⟩
abbrev main_call14_call0_v1 : Ref sig .tc := ⟨.hbm, 572, rfl⟩
abbrev main_call14_v4 : Ref sig .tc := ⟨.hbm, 573, rfl⟩
abbrev main_call14_v5 : Ref sig .tc := ⟨.hbm, 574, rfl⟩
abbrev main_call14_cst_2 : Ref sig .tc := ⟨.hbm, 575, rfl⟩
abbrev main_call14_v6 : Ref sig .tc := ⟨.hbm, 576, rfl⟩
abbrev main_call14_v7 : Ref sig .tc := ⟨.hbm, 577, rfl⟩
abbrev main_v335 : Ref sig .tc := ⟨.hbm, 578, rfl⟩
abbrev main_cst_76 : Ref sig .tc := ⟨.hbm, 579, rfl⟩
abbrev main_v336 : Ref sig .tc := ⟨.hbm, 580, rfl⟩
abbrev main_cst_77 : Ref sig .tc := ⟨.hbm, 581, rfl⟩
abbrev main_v337 : Ref sig .tc := ⟨.hbm, 582, rfl⟩
abbrev main_v338 : Ref sig .tc := ⟨.hbm, 583, rfl⟩
abbrev main_v339 : Ref sig .tc := ⟨.hbm, 584, rfl⟩
abbrev main_cst_78 : Ref sig .tc := ⟨.hbm, 585, rfl⟩
abbrev main_v340 : Ref sig .tc := ⟨.hbm, 586, rfl⟩
abbrev main_v341 : Ref sig .tc := ⟨.hbm, 587, rfl⟩
abbrev main_v342 : Ref sig .tc := ⟨.hbm, 588, rfl⟩
abbrev main_cst_79 : Ref sig .tc := ⟨.hbm, 589, rfl⟩
abbrev main_v343 : Ref sig .tc := ⟨.hbm, 590, rfl⟩
abbrev main_v344 : Ref sig .tc := ⟨.hbm, 591, rfl⟩
abbrev main_v345 : Ref sig .tc := ⟨.hbm, 592, rfl⟩
abbrev main_v346 : Ref sig .tc := ⟨.hbm, 593, rfl⟩
abbrev main_v347 : Ref sig .tc := ⟨.hbm, 594, rfl⟩
abbrev main_v348 : Ref sig .tc := ⟨.hbm, 595, rfl⟩
abbrev main_v349 : Ref sig .tc := ⟨.hbm, 596, rfl⟩
abbrev main_v350 : Ref sig .tc := ⟨.hbm, 597, rfl⟩
abbrev main_v351 : Ref sig .tc := ⟨.hbm, 598, rfl⟩
abbrev main_v352 : Ref sig .tc := ⟨.hbm, 599, rfl⟩
abbrev main_v353 : Ref sig .tc := ⟨.hbm, 600, rfl⟩
abbrev main_v354 : Ref sig .tc := ⟨.hbm, 601, rfl⟩
abbrev main_cst_80 : Ref sig .tc := ⟨.hbm, 602, rfl⟩
abbrev main_call15_v0 : Ref sig .tc := ⟨.hbm, 603, rfl⟩
abbrev main_call15_v1 : Ref sig .tc := ⟨.hbm, 604, rfl⟩
abbrev main_call15_v2 : Ref sig .tc := ⟨.hbm, 605, rfl⟩
abbrev main_call15_v3 : Ref sig .tc := ⟨.hbm, 606, rfl⟩
abbrev main_v355 : Ref sig .tc := ⟨.hbm, 607, rfl⟩
abbrev main_cst_81 : Ref sig .tc := ⟨.hbm, 608, rfl⟩
abbrev main_v356 : Ref sig .tc := ⟨.hbm, 609, rfl⟩
abbrev main_v357 : Ref sig .tc := ⟨.hbm, 610, rfl⟩
abbrev main_v358 : Ref sig .tc := ⟨.hbm, 611, rfl⟩
abbrev main_v359 : Ref sig .tc := ⟨.hbm, 612, rfl⟩
abbrev main_v360 : Ref sig .tc := ⟨.hbm, 613, rfl⟩
abbrev main_v361 : Ref sig .tc := ⟨.hbm, 614, rfl⟩

abbrev nD : Nat := 1
abbrev τ : Topo := Topo.v7x

variable {F : FTy → Type} [FloatOps F]
-- ==== Proof.KernelRun.lean ====
/- The kernel program's run with its result: the launch of the generated frame, stated so that it also says what
   the result array holds, which is the last boundary's contents `W18` at that array. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the kernel program terminates without a fault,
    and at the end the result array holds what the last boundary says, the argument arrays are as launched and every
    semaphore counter is zero. -/
theorem run_value : θ_run defs (onTc (τ := τ) (main (F := F))) ⟨m, fun _ => 0, ρ⟩ (fun r => (∀ c : Dev nD,
      r.2.mem ((c.tc : Thread nD τ).loc main_v161) = W18 m ρ c (Proc.devRef .tc main_v161)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h hz => ⟨(fun c =>
      ⟨h c _ (mem_uc main_v161 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c),
       (h c _ (mem_uc main_arg17 (by decide))).trans (W18_main_arg17 m ρ c),
       (h c _ (mem_uc main_arg18 (by decide))).trans (W18_main_arg18 m ρ c),
       (h c _ (mem_uc main_arg19 (by decide))).trans (W18_main_arg19 m ρ c),
       (h c _ (mem_uc main_arg20 (by decide))).trans (W18_main_arg20 m ρ c),
       (h c _ (mem_uc main_arg21 (by decide))).trans (W18_main_arg21 m ρ c),
       (h c _ (mem_uc main_arg22 (by decide))).trans (W18_main_arg22 m ρ c),
       (h c _ (mem_uc main_arg23 (by decide))).trans (W18_main_arg23 m ρ c)⟩), funext fun g => hz g (.inr (no_unscoped g.2))⟩)

end Cert.KernelIdeal.Gen

end
-- ==== Proof.Dense.lean ====
/- A layer's opening stage: the dense product and the two attention sums per head, and the arrays the opening regions
   leave equal to them. -/
module

public import proofs.«01_k».proof.Proof.Gen.KernelIdeal.Frame.Region0
public import proofs.«01_k».proof.Proof.Gen.KernelIdeal.Frame.Region2
public import proofs.«01_k».proof.Proof.Gen.KernelIdeal.Frame.Region4
public import Idealize.ShloMosaic.Lib.Pointwise
public import Idealize.ShloMosaic.Lib.Pipeline.ValueKit

@[expose] public section

set_option maxRecDepth 16384

noncomputable section

namespace Cert.Gat

open Idealize.ShloMosaic Idealize.ShloMosaic.TcCoe Cert.KernelIdeal Cert.KernelIdeal.Gen
open Idealize.ShloMosaic.Pointwise
open Idealize.ShloMosaic.Pipeline (Dat Cfg Window)

/-- The dense product of the node features and the weights. -/
def dense (x : Vec Ideal S10000x128 .f32) (w : Vec Ideal S128x128 .f32) : Vec Ideal S10000x128 .f32 :=
  fun j => ∑ k : Fin 128, x (ix2 (j 0) k) * w (ix2 k (j 1))

/-- The attention sum of a node and a head: the head's sixteen channels against the head's weights. -/
def heads (x : Vec Ideal S10000x128 .f32) (w : Vec Ideal S128x128 .f32) (a : Vec Ideal S8x16 .f32) : Vec Ideal S10000x8 .f32 :=
  fun j => ∑ d : Fin 16, dense x w (ix2 (j 0) ⟨(j 1).val * 16 + d.val, by have := (j 1).isLt; have := d.isLt; simp at *; omega⟩) * a (ix2 (j 1) d)

variable (V : (c : Dev nD) → (b : Ref sig .tc) → Buf (Elt Ideal) ((c : Thread nD τ).loc b))

/-- Where the first layer's opening blocks lie: block `t` of the features and of the three results is row block `t`, the
    weights' blocks are whole. -/
theorem idx0 : ∀ t : Fin grid0.N, win0_0.index t 0 = win0_4.index t 0 ∧ win0_0.index t 1 = 0
    ∧ win0_5.index t 0 = win0_4.index t 0 ∧ win0_6.index t 0 = win0_4.index t 0
    ∧ win0_4.index t 1 = 0 ∧ win0_5.index t 1 = 0 ∧ win0_6.index t 1 = 0
    ∧ win0_1.index t 0 = 0 ∧ win0_1.index t 1 = 0 ∧ win0_2.index t 0 = 0 ∧ win0_2.index t 1 = 0
    ∧ win0_3.index t 0 = 0 ∧ win0_3.index t 1 = 0 := by decide +kernel

/-- The first layer's opening region leaves the dense product. -/
theorem reg0_h (c : Dev nD) : (dat0 V c).arrAt 4 cfg0.N = dense (V c (Pipeline.arrRef spec0 0)) (V c (Pipeline.arrRef spec0 1)) := by
  refine (dat0 V c).arrAt_eq_of_covers 4 _ (by decide +kernel) fun t hf y => ?_
  blk_simp; rw [after0_4]
  frame_out
  obtain ⟨e0, e1, e2, e3, e4, e5, e6, e7, e8, e9, e10, e11, e12⟩ := idx0 t
  unfold dense
  pointwise [k0_pay1]
  blk_point [iblk0, e0, e1, e2, e3, e4, e5, e6, e7, e8, e9, e10, e11, e12]

/-- The first layer's opening region leaves the source heads' sums. -/
theorem reg0_s (c : Dev nD) : (dat0 V c).arrAt 5 cfg0.N = heads (V c (Pipeline.arrRef spec0 0)) (V c (Pipeline.arrRef spec0 1)) (V c (Pipeline.arrRef spec0 2)) := by
  refine (dat0 V c).arrAt_eq_of_covers 5 _ (by decide +kernel) fun t hf y => ?_
  blk_simp; rw [after0_5]
  frame_out
  obtain ⟨e0, e1, e2, e3, e4, e5, e6, e7, e8, e9, e10, e11, e12⟩ := idx0 t
  unfold heads dense
  pointwise [k0_pay1, k0_pay2, k0_pay3]
  blk_point [iblk0, e0, e1, e2, e3, e4, e5, e6, e7, e8, e9, e10, e11, e12]

/-- The first layer's opening region leaves the target heads' sums. -/
theorem reg0_d (c : Dev nD) : (dat0 V c).arrAt 6 cfg0.N = heads (V c (Pipeline.arrRef spec0 0)) (V c (Pipeline.arrRef spec0 1)) (V c (Pipeline.arrRef spec0 3)) := by
  refine (dat0 V c).arrAt_eq_of_covers 6 _ (by decide +kernel) fun t hf y => ?_
  blk_simp; rw [after0_6]
  frame_out
  obtain ⟨e0, e1, e2, e3, e4, e5, e6, e7, e8, e9, e10, e11, e12⟩ := idx0 t
  unfold heads dense
  pointwise [k0_pay1, k0_pay2, k0_pay4]
  blk_point [iblk0, e0, e1, e2, e3, e4, e5, e6, e7, e8, e9, e10, e11, e12]

/-- Where the second layer's opening blocks lie: block `t` of the features and of the three results is row block `t`, the
    weights' blocks are whole. -/
theorem idx2 : ∀ t : Fin grid2.N, win2_0.index t 0 = win2_4.index t 0 ∧ win2_0.index t 1 = 0
    ∧ win2_5.index t 0 = win2_4.index t 0 ∧ win2_6.index t 0 = win2_4.index t 0
    ∧ win2_4.index t 1 = 0 ∧ win2_5.index t 1 = 0 ∧ win2_6.index t 1 = 0
    ∧ win2_1.index t 0 = 0 ∧ win2_1.index t 1 = 0 ∧ win2_2.index t 0 = 0 ∧ win2_2.index t 1 = 0
    ∧ win2_3.index t 0 = 0 ∧ win2_3.index t 1 = 0 := by decide +kernel

/-- The second layer's opening region leaves the dense product. -/
theorem reg2_h (c : Dev nD) : (dat2 V c).arrAt 4 cfg2.N = dense (V c (Pipeline.arrRef spec2 0)) (V c (Pipeline.arrRef spec2 1)) := by
  refine (dat2 V c).arrAt_eq_of_covers 4 _ (by decide +kernel) fun t hf y => ?_
  blk_simp; rw [after2_4]
  frame_out
  obtain ⟨e0, e1, e2, e3, e4, e5, e6, e7, e8, e9, e10, e11, e12⟩ := idx2 t
  unfold dense
  pointwise [k2_pay1]
  blk_point [iblk2, e0, e1, e2, e3, e4, e5, e6, e7, e8, e9, e10, e11, e12]

/-- The second layer's opening region leaves the source heads' sums. -/
theorem reg2_s (c : Dev nD) : (dat2 V c).arrAt 5 cfg2.N = heads (V c (Pipeline.arrRef spec2 0)) (V c (Pipeline.arrRef spec2 1)) (V c (Pipeline.arrRef spec2 2)) := by
  refine (dat2 V c).arrAt_eq_of_covers 5 _ (by decide +kernel) fun t hf y => ?_
  blk_simp; rw [after2_5]
  frame_out
  obtain ⟨e0, e1, e2, e3, e4, e5, e6, e7, e8, e9, e10, e11, e12⟩ := idx2 t
  unfold heads dense
  pointwise [k2_pay1, k2_pay2, k2_pay3]
  blk_point [iblk2, e0, e1, e2, e3, e4, e5, e6, e7, e8, e9, e10, e11, e12]

/-- The second layer's opening region leaves the target heads' sums. -/
theorem reg2_d (c : Dev nD) : (dat2 V c).arrAt 6 cfg2.N = heads (V c (Pipeline.arrRef spec2 0)) (V c (Pipeline.arrRef spec2 1)) (V c (Pipeline.arrRef spec2 3)) := by
  refine (dat2 V c).arrAt_eq_of_covers 6 _ (by decide +kernel) fun t hf y => ?_
  blk_simp; rw [after2_6]
  frame_out
  obtain ⟨e0, e1, e2, e3, e4, e5, e6, e7, e8, e9, e10, e11, e12⟩ := idx2 t
  unfold heads dense
  pointwise [k2_pay1, k2_pay2, k2_pay4]
  blk_point [iblk2, e0, e1, e2, e3, e4, e5, e6, e7, e8, e9, e10, e11, e12]

/-- Where the third layer's opening blocks lie: block `t` of the features and of the three results is row block `t`, the
    weights' blocks are whole. -/
theorem idx4 : ∀ t : Fin grid4.N, win4_0.index t 0 = win4_4.index t 0 ∧ win4_0.index t 1 = 0
    ∧ win4_5.index t 0 = win4_4.index t 0 ∧ win4_6.index t 0 = win4_4.index t 0
    ∧ win4_4.index t 1 = 0 ∧ win4_5.index t 1 = 0 ∧ win4_6.index t 1 = 0
    ∧ win4_1.index t 0 = 0 ∧ win4_1.index t 1 = 0 ∧ win4_2.index t 0 = 0 ∧ win4_2.index t 1 = 0
    ∧ win4_3.index t 0 = 0 ∧ win4_3.index t 1 = 0 := by decide +kernel

/-- The third layer's opening region leaves the dense product. -/
theorem reg4_h (c : Dev nD) : (dat4 V c).arrAt 4 cfg4.N = dense (V c (Pipeline.arrRef spec4 0)) (V c (Pipeline.arrRef spec4 1)) := by
  refine (dat4 V c).arrAt_eq_of_covers 4 _ (by decide +kernel) fun t hf y => ?_
  blk_simp; rw [after4_4]
  frame_out
  obtain ⟨e0, e1, e2, e3, e4, e5, e6, e7, e8, e9, e10, e11, e12⟩ := idx4 t
  unfold dense
  pointwise [k4_pay1]
  blk_point [iblk4, e0, e1, e2, e3, e4, e5, e6, e7, e8, e9, e10, e11, e12]

/-- The third layer's opening region leaves the source heads' sums. -/
theorem reg4_s (c : Dev nD) : (dat4 V c).arrAt 5 cfg4.N = heads (V c (Pipeline.arrRef spec4 0)) (V c (Pipeline.arrRef spec4 1)) (V c (Pipeline.arrRef spec4 2)) := by
  refine (dat4 V c).arrAt_eq_of_covers 5 _ (by decide +kernel) fun t hf y => ?_
  blk_simp; rw [after4_5]
  frame_out
  obtain ⟨e0, e1, e2, e3, e4, e5, e6, e7, e8, e9, e10, e11, e12⟩ := idx4 t
  unfold heads dense
  pointwise [k4_pay1, k4_pay2, k4_pay3]
  blk_point [iblk4, e0, e1, e2, e3, e4, e5, e6, e7, e8, e9, e10, e11, e12]

/-- The third layer's opening region leaves the target heads' sums. -/
theorem reg4_d (c : Dev nD) : (dat4 V c).arrAt 6 cfg4.N = heads (V c (Pipeline.arrRef spec4 0)) (V c (Pipeline.arrRef spec4 1)) (V c (Pipeline.arrRef spec4 3)) := by
  refine (dat4 V c).arrAt_eq_of_covers 6 _ (by decide +kernel) fun t hf y => ?_
  blk_simp; rw [after4_6]
  frame_out
  obtain ⟨e0, e1, e2, e3, e4, e5, e6, e7, e8, e9, e10, e11, e12⟩ := idx4 t
  unfold heads dense
  pointwise [k4_pay1, k4_pay2, k4_pay4]
  blk_point [iblk4, e0, e1, e2, e3, e4, e5, e6, e7, e8, e9, e10, e11, e12]

end Cert.Gat

end
-- ==== Proof.Pure.lean ====
/- Facts about extended reals that the layers' two spellings differ by: the square root against its reciprocal, the
   variance plus its guard being positive, and the shift of the softmax. -/
module

public import Idealize.ShloMosaic.PureOps.Ideal
public import Idealize.ShloMosaic.Lib.IdealHost

@[expose] public section

noncomputable section

namespace Cert.Gat

open Idealize.ShloMosaic

/-- The number of nodes, as the programs' single-precision constant. -/
abbrev cN : EReal := Ideal.ofBits .f32 0x461C4000#32
/-- The guard under the square root, as the programs' constant. -/
abbrev cEps : EReal := Ideal.ofBits .f32 0x3727C5AC#32
/-- The guard of the softmax denominator, as the programs' constant. -/
abbrev cTiny : EReal := Ideal.ofBits .f32 0x24E69595#32

/-- The node count's pattern denotes ten thousand. -/
theorem cN_eq : cN = ((10000 : ℝ) : EReal) := by
  simp [cN, Ideal.ofBits, Ideal.ieee, -EReal.coe_mul]; norm_num

/-- The guard under the root denotes a positive real. -/
theorem cEps_pos : ∃ r : ℝ, 0 < r ∧ cEps = (r : EReal) := by
  refine ⟨_, ?_, by simp [cEps, Ideal.ofBits, Ideal.ieee, -EReal.coe_mul]; rfl⟩
  positivity

/-- The softmax guard denotes a positive real. -/
theorem cTiny_pos : ∃ r : ℝ, 0 < r ∧ cTiny = (r : EReal) := by
  refine ⟨_, ?_, by simp [cTiny, Ideal.ofBits, Ideal.ieee, -EReal.coe_mul]; rfl⟩
  positivity

/-- Infinity's pattern denotes the top element. -/
theorem ofBits_inf : Ideal.ofBits .f32 0x7F800000#32 = ⊤ := by simp [Ideal.ofBits, Ideal.ieee]

/-- Minus infinity's pattern denotes the bottom element. -/
theorem ofBits_neg_inf : Ideal.ofBits .f32 0xFF800000#32 = ⊥ := by simp [Ideal.ofBits, Ideal.ieee]

/-- A square of an extended real is not negative. -/
theorem sq_nonneg (x : EReal) : 0 ≤ x * x := by
  rcases le_total 0 x with h | h
  · exact mul_nonneg h h
  · have h' : 0 ≤ -x := by simpa using EReal.neg_le_neg_iff.mpr h
    have := mul_nonneg h' h'
    simpa using this

/-- The exponential is not negative. -/
theorem exp_nonneg (x : EReal) : 0 ≤ Ideal.exp x := by
  induction x with
  | bot => simp
  | top => simp
  | coe r => simpa using (Real.exp_pos r).le

/-- Dividing by the root of a positive number is multiplying by its reciprocal root. -/
theorem div_sqrt (a : EReal) {v : EReal} (hv : 0 < v) : Ideal.div a (Ideal.sqrt v) = a * Ideal.rsqrt v := by
  induction v with
  | bot => exact absurd hv (by simp)
  | top => simp [Ideal.div]
  | coe r =>
    have hr : 0 < r := by exact_mod_cast hv
    have hs : Real.sqrt r ≠ 0 := (Real.sqrt_pos.mpr hr).ne'
    simp only [Ideal.sqrt_coe, Ideal.rsqrt_coe, if_neg hr.not_gt, if_neg hr.ne']
    rw [Ideal.div_coe hs, one_div]

/-- A sum of squares over the nodes' count, plus the guard, is positive. -/
theorem var_pos {ι : Type} (s : Finset ι) (f : ι → EReal) : 0 < Ideal.div (∑ i ∈ s, f i * f i) cN + cEps := by
  obtain ⟨r, hr, he⟩ := cEps_pos
  rw [cN_eq, Ideal.div_coe (by norm_num), he]
  have h0 : 0 ≤ (∑ i ∈ s, f i * f i) * ((1 / 10000 : ℝ) : EReal) :=
    mul_nonneg (Finset.sum_nonneg fun i _ => sq_nonneg _) (by exact_mod_cast (by norm_num : (0 : ℝ) ≤ 1 / 10000))
  exact lt_of_lt_of_le (by exact_mod_cast hr) (le_add_of_nonneg_left h0)

/-- The exponential of a difference with a real number is a product of exponentials. -/
theorem exp_sub_coe (e : EReal) (M : ℝ) : Ideal.exp (e - M) = Ideal.exp e * ((Real.exp (-M) : ℝ) : EReal) := by
  have hp : 0 < Real.exp (-M) := Real.exp_pos _
  induction e with
  | bot => simp [EReal.bot_sub]
  | top => simp [EReal.top_sub_coe, EReal.top_mul_coe_of_pos hp]
  | coe r =>
    rw [← EReal.coe_sub, Ideal.exp_coe, Ideal.exp_coe, ← EReal.coe_mul, ← Real.exp_add, sub_eq_add_neg]

/-- A sum of nonnegative terms times a constant is the sum of the products. -/
theorem sum_mul_of_nonneg {ι : Type} (s : Finset ι) (f : ι → EReal) (hf : ∀ i, 0 ≤ f i) (c : EReal) :
    ∑ i ∈ s, f i * c = (∑ i ∈ s, f i) * c := by
  classical
  induction s using Finset.induction_on with
  | empty => simp
  | insert a s ha ih =>
    rw [Finset.sum_insert ha, Finset.sum_insert ha, ih,
      EReal.right_distrib_of_nonneg (hf a) (Finset.sum_nonneg fun i _ => hf i)]

/-- A ratio is unchanged when both sides are scaled by a positive real. -/
theorem div_scale (x : EReal) {y : EReal} (hy : 0 < y) {c : ℝ} (hc : 0 < c) :
    Ideal.div (x * c) (y * c) = Ideal.div x y := by
  induction y with
  | bot => exact absurd hy (by simp)
  | top => simp [EReal.top_mul_coe_of_pos hc, Ideal.div]
  | coe r =>
    have hr : 0 < r := by exact_mod_cast hy
    rw [← EReal.coe_mul, Ideal.div_coe (mul_pos hr hc).ne', Ideal.div_coe hr.ne', mul_assoc, ← EReal.coe_mul]
    congr 2
    field_simp

/-- The softmax weight is the same with and without the shift: the exponentials, their sum and the guard all carry the
    same positive factor. -/
theorem softmax_shift {ι : Type} (s : Finset ι) (e : ι → EReal) (e₀ : EReal) (M : ℝ) :
    Ideal.div (Ideal.exp (e₀ - M)) ((∑ i ∈ s, Ideal.exp (e i - M)) + cTiny * Ideal.exp (-(M : EReal)))
      = Ideal.div (Ideal.exp e₀) ((∑ i ∈ s, Ideal.exp (e i)) + cTiny) := by
  obtain ⟨t, ht, he⟩ := cTiny_pos
  have h0 : 0 ≤ ∑ i ∈ s, Ideal.exp (e i) := Finset.sum_nonneg fun i _ => exp_nonneg _
  have ht' : (0 : EReal) < cTiny := by rw [he]; exact_mod_cast ht
  rw [exp_sub_coe, Finset.sum_congr rfl fun i _ => exp_sub_coe (e i) M, sum_mul_of_nonneg _ _ (fun i => exp_nonneg _),
    ← EReal.coe_neg, Ideal.exp_coe, ← EReal.right_distrib_of_nonneg h0 ht'.le,
    div_scale _ (lt_of_lt_of_le ht' (le_add_of_nonneg_left h0)) (Real.exp_pos _)]

/-- The shift is a real number whatever the maximum is: it is the maximum where that is finite and zero elsewhere. -/
theorem shift_real (x : EReal) : ∃ M : ℝ, (if max x (-x) < ⊤ then x else 0) = (M : EReal) := by
  induction x with
  | bot => exact ⟨0, by simp⟩
  | top => exact ⟨0, by simp⟩
  | coe r => exact ⟨r, by rw [if_pos]; rw [← EReal.coe_neg]; exact max_lt (EReal.coe_lt_top _) (EReal.coe_lt_top _)⟩

/-- The exponential linear unit in the reference's spelling and in the kernel's. -/
theorem elu_eq (y : EReal) :
    (if 0 < y then y else 1 * (Ideal.exp (if 0 < y then 0 else y) - 1)) = if 0 < y then y else Ideal.exp (min y 0) - 1 := by
  by_cases h : 0 < y
  · simp [h]
  · simp [h, min_eq_left (not_lt.mp h)]

end Cert.Gat

end
-- ==== Proof.Post.lean ====
/- A layer's closing stage: the bias, the normalization over the nodes, the residual and the exponential linear unit,
   as one function of the aggregated messages, and the kernel's payload equal to it. -/
module

public import proofs.«01_k».proof.Proof.Pure
public import proofs.«01_k».proof.Proof.Gen.KernelIdeal.Skeleton
public import Idealize.ShloMosaic.Lib.Pointwise

@[expose] public section

set_option maxRecDepth 16384

noncomputable section

namespace Cert.Gat

open Idealize.ShloMosaic Cert.KernelIdeal Cert.KernelIdeal.Gen
open Idealize.ShloMosaic.Pointwise

/-- The mean over the nodes. -/
def mean (y : Fin 10000 → EReal) : EReal := Ideal.div (∑ n, y n) cN

/-- The variance over the nodes. -/
def variance (y : Fin 10000 → EReal) : EReal := Ideal.div (∑ n, (y n - mean y) * (y n - mean y)) cN

/-- One normalized channel: the centred value scaled by `g` over the root of the guarded variance, plus `be`. -/
def norm (y : Fin 10000 → EReal) (g be : EReal) (n : Fin 10000) : EReal :=
  g * (y n - mean y) * Ideal.rsqrt (variance y + cEps) + be

/-- The exponential linear unit. -/
def elu (y : EReal) : EReal := if 0 < y then y else Ideal.exp (min y 0) - 1

/-- The normalization with a division by the root in place of the product with the reciprocal root. -/
theorem norm_div (y : Fin 10000 → EReal) (g be : EReal) (n : Fin 10000) :
    Ideal.div (g * (y n - mean y)) (Ideal.sqrt (variance y + cEps)) + be = norm y g be n := by
  unfold norm
  rw [div_sqrt _ (show 0 < variance y + cEps from var_pos _ _)]

/-- A layer's closing stage, as a function of the aggregated messages, the three parameter rows and the layer's input. -/
def post (a : Vec Ideal S10000x128 .f32) (b g be : Fin 128 → EReal) (prev : Vec Ideal S10000x128 .f32) :
    Vec Ideal S10000x128 .f32 :=
  fun j => elu (norm (fun k => a (ix2 k (j 1)) + b (j 1)) (g (j 1)) (be (j 1)) (j 0) + prev j)

/-- The first layer's payload is the closing stage. -/
theorem pay1_eq (a : Vec Ideal S10000x128 .f32) (b g be : Vec Ideal S1x128 .f32) (prev : Vec Ideal S10000x128 .f32) :
    k1_pay1 (F := Ideal) (k1_pay2 a b g be prev) (k1_pay3 a b g be prev) (k1_pay4 a b g be prev)
      = post a (fun c => b (ix2 0 c)) (fun c => g (ix2 0 c)) (fun c => be (ix2 0 c)) prev := by
  funext j
  idx_vars j
  pointwise [k1_pay1, k1_pay2, k1_pay3, k1_pay4]
  rfl

/-- The second layer's payload is the first's. -/
theorem pay3_eq (a : Vec Ideal S10000x128 .f32) (b g be : Vec Ideal S1x128 .f32) (prev : Vec Ideal S10000x128 .f32)  :
    k3_pay1 (F := Ideal) (k3_pay2 a b g be prev) (k3_pay3 a b g be prev) (k3_pay4 a b g be prev)
      = k1_pay1 (F := Ideal) (k1_pay2 a b g be prev) (k1_pay3 a b g be prev) (k1_pay4 a b g be prev) := rfl

/-- The third layer's payload is the first's. -/
theorem pay5_eq (a : Vec Ideal S10000x128 .f32) (b g be : Vec Ideal S1x128 .f32) (prev : Vec Ideal S10000x128 .f32)  :
    k5_pay1 (F := Ideal) (k5_pay2 a b g be prev) (k5_pay3 a b g be prev) (k5_pay4 a b g be prev)
      = k1_pay1 (F := Ideal) (k1_pay2 a b g be prev) (k1_pay3 a b g be prev) (k1_pay4 a b g be prev) := rfl

end Cert.Gat

end
-- ==== Proof.PostRegions.lean ====
/- What the three closing regions leave in their result arrays: the layer's closing stage of the arrays the region reads. -/
module

public import proofs.«01_k».proof.Proof.Post
public import proofs.«01_k».proof.Proof.Gen.KernelIdeal.Frame
public import Idealize.ShloMosaic.Lib.Pipeline.ValueKit

@[expose] public section

set_option maxRecDepth 16384

noncomputable section

namespace Cert.Gat

open Idealize.ShloMosaic Idealize.ShloMosaic.TcCoe Cert.KernelIdeal Cert.KernelIdeal.Gen
open Idealize.ShloMosaic.Pointwise

variable (V : (c : Dev nD) → (b : Ref sig .tc) → Buf (Elt Ideal) ((c : Thread nD τ).loc b))

/-- Block 0 of the first closing region is its whole array. -/
theorem whole1_0 (c : Dev nD) : iblk1 V c 0 t1_0 = V c (Pipeline.arrRef spec1 0) :=
  funext fun i => congrArg (V c (Pipeline.arrRef spec1 0)) (funext fun a => Fin.ext
    (Pipeline.Window.rect_emb_val_of_index_zero win1_0 t1_0 a (by revert a; decide +kernel) i))

/-- Block 1 of the first closing region is its whole array. -/
theorem whole1_1 (c : Dev nD) : iblk1 V c 1 t1_0 = V c (Pipeline.arrRef spec1 1) :=
  funext fun i => congrArg (V c (Pipeline.arrRef spec1 1)) (funext fun a => Fin.ext
    (Pipeline.Window.rect_emb_val_of_index_zero win1_1 t1_0 a (by revert a; decide +kernel) i))

/-- Block 2 of the first closing region is its whole array. -/
theorem whole1_2 (c : Dev nD) : iblk1 V c 2 t1_0 = V c (Pipeline.arrRef spec1 2) :=
  funext fun i => congrArg (V c (Pipeline.arrRef spec1 2)) (funext fun a => Fin.ext
    (Pipeline.Window.rect_emb_val_of_index_zero win1_2 t1_0 a (by revert a; decide +kernel) i))

/-- Block 3 of the first closing region is its whole array. -/
theorem whole1_3 (c : Dev nD) : iblk1 V c 3 t1_0 = V c (Pipeline.arrRef spec1 3) :=
  funext fun i => congrArg (V c (Pipeline.arrRef spec1 3)) (funext fun a => Fin.ext
    (Pipeline.Window.rect_emb_val_of_index_zero win1_3 t1_0 a (by revert a; decide +kernel) i))

/-- Block 4 of the first closing region is its whole array. -/
theorem whole1_4 (c : Dev nD) : iblk1 V c 4 t1_0 = V c (Pipeline.arrRef spec1 4) :=
  funext fun i => congrArg (V c (Pipeline.arrRef spec1 4)) (funext fun a => Fin.ext
    (Pipeline.Window.rect_emb_val_of_index_zero win1_4 t1_0 a (by revert a; decide +kernel) i))

/-- What the first closing region's body stores is the closing stage of the blocks. -/
theorem out1_eq (a : Vec Ideal S10000x128 .f32) (b g be : Vec Ideal S1x128 .f32) (prev : Vec Ideal S10000x128 .f32) :
    out1_5 (F := Ideal) a b g be prev = post a (fun c => b (ix2 0 c)) (fun c => g (ix2 0 c)) (fun c => be (ix2 0 c)) prev := by
  funext j
  frame_out
  exact congrFun (pay1_eq a b g be prev) j

/-- The first closing region leaves the closing stage of what it reads. -/
theorem reg1 (c : Dev nD) : (dat1 V c).arrAt 5 cfg1.N
    = post (V c (Pipeline.arrRef spec1 0)) (fun k => (V c (Pipeline.arrRef spec1 1) : Vec Ideal S1x128 .f32) (ix2 0 k))
        (fun k => (V c (Pipeline.arrRef spec1 2) : Vec Ideal S1x128 .f32) (ix2 0 k))
        (fun k => (V c (Pipeline.arrRef spec1 3) : Vec Ideal S1x128 .f32) (ix2 0 k)) (V c (Pipeline.arrRef spec1 4)) := by
  refine (dat1 V c).arrAt_eq_of_after_last 5 t1_0 (by decide +kernel) _ fun j => ?_
  blk_simp
  rw [after1_5]
  exact congrFun ((congr (congr (congr (congr (congrArg out1_5 (whole1_0 V c)) (whole1_1 V c)) (whole1_2 V c))
    (whole1_3 V c)) (whole1_4 V c)).trans (out1_eq _ _ _ _ _)) j

/-- Block 0 of the second closing region is its whole array. -/
theorem whole3_0 (c : Dev nD) : iblk3 V c 0 t3_0 = V c (Pipeline.arrRef spec3 0) :=
  funext fun i => congrArg (V c (Pipeline.arrRef spec3 0)) (funext fun a => Fin.ext
    (Pipeline.Window.rect_emb_val_of_index_zero win3_0 t3_0 a (by revert a; decide +kernel) i))

/-- Block 1 of the second closing region is its whole array. -/
theorem whole3_1 (c : Dev nD) : iblk3 V c 1 t3_0 = V c (Pipeline.arrRef spec3 1) :=
  funext fun i => congrArg (V c (Pipeline.arrRef spec3 1)) (funext fun a => Fin.ext
    (Pipeline.Window.rect_emb_val_of_index_zero win3_1 t3_0 a (by revert a; decide +kernel) i))

/-- Block 2 of the second closing region is its whole array. -/
theorem whole3_2 (c : Dev nD) : iblk3 V c 2 t3_0 = V c (Pipeline.arrRef spec3 2) :=
  funext fun i => congrArg (V c (Pipeline.arrRef spec3 2)) (funext fun a => Fin.ext
    (Pipeline.Window.rect_emb_val_of_index_zero win3_2 t3_0 a (by revert a; decide +kernel) i))

/-- Block 3 of the second closing region is its whole array. -/
theorem whole3_3 (c : Dev nD) : iblk3 V c 3 t3_0 = V c (Pipeline.arrRef spec3 3) :=
  funext fun i => congrArg (V c (Pipeline.arrRef spec3 3)) (funext fun a => Fin.ext
    (Pipeline.Window.rect_emb_val_of_index_zero win3_3 t3_0 a (by revert a; decide +kernel) i))

/-- Block 4 of the second closing region is its whole array. -/
theorem whole3_4 (c : Dev nD) : iblk3 V c 4 t3_0 = V c (Pipeline.arrRef spec3 4) :=
  funext fun i => congrArg (V c (Pipeline.arrRef spec3 4)) (funext fun a => Fin.ext
    (Pipeline.Window.rect_emb_val_of_index_zero win3_4 t3_0 a (by revert a; decide +kernel) i))

/-- What the second closing region's body stores is the closing stage of the blocks. -/
theorem out3_eq (a : Vec Ideal S10000x128 .f32) (b g be : Vec Ideal S1x128 .f32) (prev : Vec Ideal S10000x128 .f32) :
    out3_5 (F := Ideal) a b g be prev = post a (fun c => b (ix2 0 c)) (fun c => g (ix2 0 c)) (fun c => be (ix2 0 c)) prev := by
  funext j
  frame_out
  exact congrFun ((pay3_eq a b g be prev).trans (pay1_eq a b g be prev)) j

/-- The second closing region leaves the closing stage of what it reads. -/
theorem reg3 (c : Dev nD) : (dat3 V c).arrAt 5 cfg3.N
    = post (V c (Pipeline.arrRef spec3 0)) (fun k => (V c (Pipeline.arrRef spec3 1) : Vec Ideal S1x128 .f32) (ix2 0 k))
        (fun k => (V c (Pipeline.arrRef spec3 2) : Vec Ideal S1x128 .f32) (ix2 0 k))
        (fun k => (V c (Pipeline.arrRef spec3 3) : Vec Ideal S1x128 .f32) (ix2 0 k)) (V c (Pipeline.arrRef spec3 4)) := by
  refine (dat3 V c).arrAt_eq_of_after_last 5 t3_0 (by decide +kernel) _ fun j => ?_
  blk_simp
  rw [after3_5]
  exact congrFun ((congr (congr (congr (congr (congrArg out3_5 (whole3_0 V c)) (whole3_1 V c)) (whole3_2 V c))
    (whole3_3 V c)) (whole3_4 V c)).trans (out3_eq _ _ _ _ _)) j

/-- Block 0 of the third closing region is its whole array. -/
theorem whole5_0 (c : Dev nD) : iblk5 V c 0 t5_0 = V c (Pipeline.arrRef spec5 0) :=
  funext fun i => congrArg (V c (Pipeline.arrRef spec5 0)) (funext fun a => Fin.ext
    (Pipeline.Window.rect_emb_val_of_index_zero win5_0 t5_0 a (by revert a; decide +kernel) i))

/-- Block 1 of the third closing region is its whole array. -/
theorem whole5_1 (c : Dev nD) : iblk5 V c 1 t5_0 = V c (Pipeline.arrRef spec5 1) :=
  funext fun i => congrArg (V c (Pipeline.arrRef spec5 1)) (funext fun a => Fin.ext
    (Pipeline.Window.rect_emb_val_of_index_zero win5_1 t5_0 a (by revert a; decide +kernel) i))

/-- Block 2 of the third closing region is its whole array. -/
theorem whole5_2 (c : Dev nD) : iblk5 V c 2 t5_0 = V c (Pipeline.arrRef spec5 2) :=
  funext fun i => congrArg (V c (Pipeline.arrRef spec5 2)) (funext fun a => Fin.ext
    (Pipeline.Window.rect_emb_val_of_index_zero win5_2 t5_0 a (by revert a; decide +kernel) i))

/-- Block 3 of the third closing region is its whole array. -/
theorem whole5_3 (c : Dev nD) : iblk5 V c 3 t5_0 = V c (Pipeline.arrRef spec5 3) :=
  funext fun i => congrArg (V c (Pipeline.arrRef spec5 3)) (funext fun a => Fin.ext
    (Pipeline.Window.rect_emb_val_of_index_zero win5_3 t5_0 a (by revert a; decide +kernel) i))

/-- Block 4 of the third closing region is its whole array. -/
theorem whole5_4 (c : Dev nD) : iblk5 V c 4 t5_0 = V c (Pipeline.arrRef spec5 4) :=
  funext fun i => congrArg (V c (Pipeline.arrRef spec5 4)) (funext fun a => Fin.ext
    (Pipeline.Window.rect_emb_val_of_index_zero win5_4 t5_0 a (by revert a; decide +kernel) i))

/-- What the third closing region's body stores is the closing stage of the blocks. -/
theorem out5_eq (a : Vec Ideal S10000x128 .f32) (b g be : Vec Ideal S1x128 .f32) (prev : Vec Ideal S10000x128 .f32) :
    out5_5 (F := Ideal) a b g be prev = post a (fun c => b (ix2 0 c)) (fun c => g (ix2 0 c)) (fun c => be (ix2 0 c)) prev := by
  funext j
  frame_out
  exact congrFun ((pay5_eq a b g be prev).trans (pay1_eq a b g be prev)) j

/-- The third closing region leaves the closing stage of what it reads. -/
theorem reg5 (c : Dev nD) : (dat5 V c).arrAt 5 cfg5.N
    = post (V c (Pipeline.arrRef spec5 0)) (fun k => (V c (Pipeline.arrRef spec5 1) : Vec Ideal S1x128 .f32) (ix2 0 k))
        (fun k => (V c (Pipeline.arrRef spec5 2) : Vec Ideal S1x128 .f32) (ix2 0 k))
        (fun k => (V c (Pipeline.arrRef spec5 3) : Vec Ideal S1x128 .f32) (ix2 0 k)) (V c (Pipeline.arrRef spec5 4)) := by
  refine (dat5 V c).arrAt_eq_of_after_last 5 t5_0 (by decide +kernel) _ fun j => ?_
  blk_simp
  rw [after5_5]
  exact congrFun ((congr (congr (congr (congr (congrArg out5_5 (whole5_0 V c)) (whole5_1 V c)) (whole5_2 V c))
    (whole5_3 V c)) (whole5_4 V c)).trans (out5_eq _ _ _ _ _)) j

end Cert.Gat

end
-- ==== Proof.Edge.lean ====
/- The edge phase: attention weights of the edges and the messages added up at their targets, as the two programs spell
   it, and the two spellings equal. The reference subtracts a shift from the scores, the kernel does not. -/
module

public import proofs.«01_k».proof.Proof.Pure
public import proofs.«01_k».proof.Proof.Gen.ReferenceIdeal
public import Idealize.ShloMosaic.Lib.Pointwise
public import Idealize.ShloMosaic.Lib.Routing.OpsPair
public import Idealize.ShloMosaic.Lib.Routing.Ops

@[expose] public section

set_option maxRecDepth 16384

noncomputable section

namespace Cert.Gat

open Idealize.ShloMosaic Cert.ReferenceIdeal Cert.ReferenceIdeal.Gen
open Idealize.ShloMosaic.Pointwise

/-- An edge list's node numbers as a column. -/
def col (d : IVec S330000 32) : IVec S330000x1 32 := broadcastInDim S330000x1 ![0] bcast_S330000_S330000x1_0 d

/-- The column a gather reads with: a negative number counts from the end. -/
def wrapCol (d : IVec S330000 32) : IVec S330000x1 32 :=
  col (select (cmpi .slt d (broadcastInDim S330000 ![] bcast_S_S330000 (constantI S_ 32 0#32)))
    (addi d (broadcastInDim S330000 ![] bcast_S_S330000 (constantI S_ 32 10000#32))) d)

/-- A per-node table read at every edge's node. -/
def rowsAt (x : FVec Ideal S10000x8 .f32) (d : IVec S330000 32) : FVec Ideal S330000x8 .f32 :=
  Host.gather gather_S10000x8_S330000x1_S330000x8_1_0_n_n_0_1_18 x (wrapCol d)

/-- Per-edge values added up at the edges' nodes. -/
def sumAt (x : FVec Ideal S330000x8 .f32) (d : IVec S330000 32) : FVec Ideal S10000x8 .f32 :=
  Host.scatterAdd scatter_S10000x8_S330000x1_S330000x8_1_0_0_1
    (broadcastInDim S10000x8 ![] bcast_S_S10000x8 (constant S_ .f32 0x00000000#32)) (col d) x

/-- The edges' scores: the two nodes' sums added, the negative ones scaled down. -/
def score (s t : FVec Ideal S10000x8 .f32) (src dst : IVec S330000 32) : FVec Ideal S330000x8 .f32 :=
  select (cmpf .oge (addf (rowsAt s src) (rowsAt t dst)) (broadcastInDim S330000x8 ![] bcast_S_S330000x8 (constant S_ .f32 0x00000000#32)))
    (addf (rowsAt s src) (rowsAt t dst))
    (mulf (broadcastInDim S330000x8 ![] bcast_S_S330000x8 (constant S_ .f32 0x3E4CCCCD#32)) (addf (rowsAt s src) (rowsAt t dst)))

/-- The attention weights without a shift. -/
def alphaK (e : FVec Ideal S330000x8 .f32) (dst : IVec S330000 32) : FVec Ideal S330000x8 .f32 :=
  Host.divf (Host.exp e) (addf (rowsAt (sumAt (Host.exp e) dst) dst)
    (broadcastInDim S330000x8 ![] bcast_S_S330000x8 (constant S_ .f32 0x24E69595#32)))

/-- The attention weights with the scores shifted by a table `M` of the target nodes. -/
def alphaR (e : FVec Ideal S330000x8 .f32) (M : FVec Ideal S10000x8 .f32) (dst : IVec S330000 32) : FVec Ideal S330000x8 .f32 :=
  Host.divf (Host.exp (subf e (rowsAt M dst)))
    (addf (rowsAt (sumAt (Host.exp (subf e (rowsAt M dst))) dst) dst)
      (mulf (broadcastInDim S330000x8 ![] bcast_S_S330000x8 (constant S_ .f32 0x24E69595#32)) (Host.exp (Host.negf (rowsAt M dst)))))

/-- The weighted messages of the edges added up at their targets. -/
def aggregate (h : FVec Ideal S10000x128 .f32) (a : FVec Ideal S330000x8 .f32) (src dst : IVec S330000 32) :
    FVec Ideal S10000x128 .f32 :=
  shapeCast S10000x128 (Host.scatterAdd scatter_S10000x8x16_S330000x1_S330000x8x16_12_0_0_1
    (broadcastInDim S10000x8x16 ![] bcast_S_S10000x8x16 (constant S_ .f32 0x00000000#32)) (col dst)
    (mulf (Host.gather gather_S10000x8x16_S330000x1_S330000x8x16_12_0_n_n_0_1_1816
        (shapeCast S10000x8x16 h shapeCasts_S10000x128_S10000x8x16) (wrapCol src))
      (broadcastInDim S330000x8x16 ![0, 1, 2] bcast_S330000x8x1_S330000x8x16_0_1_2
        (broadcastInDim S330000x8x1 ![0, 1] bcast_S330000x8_S330000x8x1_0_1 a)))) shapeCasts_S10000x8x16_S10000x128

/-- The column at an edge. -/
theorem col_at (d : IVec S330000 32) (u : Fin 330000) : col d (ix2 u 0) = d (ix1 u) := by
  pointwise [col]

/-- Where an edge's row lands: an edge value reaches a node and head exactly when the edge's number is the node and the
    head is its own. -/
theorem lands2 (d : IVec S330000 32) (u : Fin 330000) (y : Fin 8) (i : Fin 10000) (k : Fin 8) :
    scatter_S10000x8_S330000x1_S330000x8_1_0_0_1.resultIdx? (ix2 u y) (col d) = some (ix2 i k)
      ↔ (d (ix1 u)).toInt = (i.val : Int) ∧ y = k := by
  rw [Routing.resultIdx?_eq_some]
  have h0 : scatter_S10000x8_S330000x1_S330000x8_1_0_0_1.start (ix2 u y) (col d) 0 = (d (ix1 u)).toInt := by
    rw [← col_at d u]
    exact congrArg (fun q => (col d q).toInt) (funext fun a => by fin_cases a <;> rfl)
  have h1 : scatter_S10000x8_S330000x1_S330000x8_1_0_0_1.start (ix2 u y) (col d) 1 = 0 := rfl
  have w0 : scatter_S10000x8_S330000x1_S330000x8_1_0_0_1.window (ix2 u y) 0 = 0 := rfl
  have w1 : scatter_S10000x8_S330000x1_S330000x8_1_0_0_1.window (ix2 u y) 1 = y.val := rfl
  refine Fin.forall_fin_two.trans ?_
  rw [h0, h1, w0, w1]
  show _ + ((0 : Nat) : Int) = (i.val : Int) ∧ 0 + (y.val : Int) = (k.val : Int) ↔ _
  rw [Fin.ext_iff]
  omega

/-- The same of the messages' scatter: the target node and the head. -/
theorem lands3 (d : IVec S330000 32) (u : Fin 330000) (y : Fin 8) (z : Fin 16) (i : S10000x8x16.Idx)
    (h : scatter_S10000x8x16_S330000x1_S330000x8x16_12_0_0_1.resultIdx? (ix3 u y z) (col d) = some i) :
    (d (ix1 u)).toInt = ((i 0).val : Int) := by
  rw [Routing.resultIdx?_eq_some] at h
  have h0 : scatter_S10000x8x16_S330000x1_S330000x8x16_12_0_0_1.start (ix3 u y z) (col d) 0 = (d (ix1 u)).toInt := by
    rw [← col_at d u]
    exact congrArg (fun q => (col d q).toInt) (funext fun a => by fin_cases a <;> rfl)
  have w0 : scatter_S10000x8x16_S330000x1_S330000x8x16_12_0_0_1.window (ix3 u y z) 0 = 0 := rfl
  have a0 := h 0
  rw [h0, w0] at a0
  simpa using a0

/-- A word whose signed value is a node number is that number's word. -/
theorem word_of_toInt (x : BitVec 32) (i : Fin 10000) (h : x.toInt = (i.val : Int)) : x = BitVec.ofNat 32 i.val := by
  have hi := i.isLt
  apply BitVec.eq_of_toInt_eq
  rw [h, StableHlo.Predicate.toInt_ofNat_small _ (by omega)]

/-- A table read at an edge whose number is node `i` is the table's row `i`. -/
theorem rowsAt_of (x : FVec Ideal S10000x8 .f32) (d : IVec S330000 32) (u : Fin 330000) (i : Fin 10000) (k : Fin 8)
    (h : (d (ix1 u)).toInt = (i.val : Int)) : rowsAt x d (ix2 u k) = x (ix2 i k) := by
  have hw := word_of_toInt _ i h
  have hi := i.isLt
  refine Routing.gather_row (nb := 10000) (B := 8) (n := 330000) gather_S10000x8_S330000x1_S330000x8_1_0_n_n_0_1_18
    rfl rfl rfl rfl rfl x (wrapCol d) u k i ?_ (by norm_num)
  have e : wrapCol d (ix2 u 0) = d (ix1 u) := by
    unfold wrapCol
    rw [col_at]
    pointwise
    rw [hw]
    exact Routing.wrap_of_lt _ _ (by rw [BitVec.toNat_ofNat]; omega)
  exact e.trans hw

/-- A scatter-add reads its updates only where they land. -/
theorem scatterAdd_congr {s si su : Shape} (d : ScatterDims s si su) (x : FVec Ideal s .f32) (idx : IVec si 32)
    (a b : FVec Ideal su .f32) (h : ∀ j i, d.resultIdx? j idx = some i → a j = b j) :
    Host.scatterAdd d x idx a = Host.scatterAdd d x idx b :=
  funext fun i => congrArg (x i + ·) (Finset.sum_congr rfl fun j hj => h j i (Finset.mem_filter.mp hj).2)

/-- A scatter-add at an index: what was there and the updates that land there. -/
theorem scatterAdd_at {s si su : Shape} (d : ScatterDims s si su) (x : FVec Ideal s .f32) (idx : IVec si 32)
    (a : FVec Ideal su .f32) (i : s.Idx) :
    Host.scatterAdd d x idx a i = x i + ∑ j ∈ Finset.univ.filter (fun j => d.resultIdx? j idx = some i), a j := rfl

/-- The sum at a node and a head is the sum over the edges that land there. -/
theorem sumAt_at (x : FVec Ideal S330000x8 .f32) (d : IVec S330000 32) (i : S10000x8.Idx) :
    sumAt x d i = ∑ j ∈ Finset.univ.filter (fun j => scatter_S10000x8_S330000x1_S330000x8_1_0_0_1.resultIdx? j (col d) = some i), x j := by
  unfold sumAt
  rw [scatterAdd_at]
  have h0 : broadcastInDim S10000x8 ![] bcast_S_S10000x8 (constant (F := Ideal) S_ .f32 0x00000000#32) i = (0 : EReal) := by
    idx_vars i
    pointwise
  rw [h0, zero_add]

/-- A shifted score of an edge that lands at a node: the node's own shift is taken off. -/
theorem shifted_at (e : FVec Ideal S330000x8 .f32) (M : FVec Ideal S10000x8 .f32) (dst : IVec S330000 32)
    (j : S330000x8.Idx) (i : Fin 10000) (k : Fin 8)
    (h : scatter_S10000x8_S330000x1_S330000x8_1_0_0_1.resultIdx? j (col dst) = some (ix2 i k)) :
    Host.exp (subf e (rowsAt M dst)) j = Ideal.exp (e j - M (ix2 i k)) := by
  idx_vars j
  obtain ⟨h0, rfl⟩ := (lands2 _ _ _ _ _).mp h
  rw [← rowsAt_of M dst _ i _ h0]
  rfl

/-- The weights at an edge and head, in scalars. -/
theorem alphaR_at (e : FVec Ideal S330000x8 .f32) (M : FVec Ideal S10000x8 .f32) (dst : IVec S330000 32) (u : Fin 330000) (k : Fin 8) :
    alphaR e M dst (ix2 u k) = Ideal.div (Ideal.exp (e (ix2 u k) - rowsAt M dst (ix2 u k)))
      (rowsAt (sumAt (Host.exp (subf e (rowsAt M dst))) dst) dst (ix2 u k)
        + cTiny * Ideal.exp (-(rowsAt M dst (ix2 u k)))) := by
  pointwise [alphaR]

/-- The unshifted weights at an edge and head, in scalars. -/
theorem alphaK_at (e : FVec Ideal S330000x8 .f32) (dst : IVec S330000 32) (u : Fin 330000) (k : Fin 8) :
    alphaK e dst (ix2 u k) = Ideal.div (Ideal.exp (e (ix2 u k)))
      (rowsAt (sumAt (Host.exp e) dst) dst (ix2 u k) + cTiny) := by
  pointwise [alphaK]

/-- The weight of an edge that lands at a node does not see the shift. -/
theorem alpha_eq (e : FVec Ideal S330000x8 .f32) (M : FVec Ideal S10000x8 .f32) (hM : ∀ i, ∃ r : ℝ, M i = (r : EReal))
    (dst : IVec S330000 32) (u : Fin 330000) (k : Fin 8) (i : Fin 10000) (h : (dst (ix1 u)).toInt = (i.val : Int)) :
    alphaR e M dst (ix2 u k) = alphaK e dst (ix2 u k) := by
  obtain ⟨r, hr⟩ := hM (ix2 i k)
  have hX : sumAt (Host.exp (subf e (rowsAt M dst))) dst (ix2 i k)
      = ∑ j ∈ Finset.univ.filter (fun j => scatter_S10000x8_S330000x1_S330000x8_1_0_0_1.resultIdx? j (col dst) = some (ix2 i k)),
          Ideal.exp (e j - (r : EReal)) := by
    rw [sumAt_at, ← hr]
    exact Finset.sum_congr rfl fun j hj => shifted_at e M dst j i k (Finset.mem_filter.mp hj).2
  have hY : sumAt (Host.exp e) dst (ix2 i k)
      = ∑ j ∈ Finset.univ.filter (fun j => scatter_S10000x8_S330000x1_S330000x8_1_0_0_1.resultIdx? j (col dst) = some (ix2 i k)),
          Ideal.exp (e j) := by
    rw [sumAt_at]
    exact Finset.sum_congr rfl fun j _ => rfl
  rw [alphaR_at, alphaK_at, rowsAt_of M dst u i k h, rowsAt_of _ dst u i k h, rowsAt_of _ dst u i k h, hX, hY, hr, softmax_shift]

/-- A weight spread over its head's sixteen channels. -/
def spread (a : FVec Ideal S330000x8 .f32) : FVec Ideal S330000x8x16 .f32 :=
  broadcastInDim S330000x8x16 ![0, 1, 2] bcast_S330000x8x1_S330000x8x16_0_1_2
    (broadcastInDim S330000x8x1 ![0, 1] bcast_S330000x8_S330000x8x1_0_1 a)

/-- The spread weight at an edge, head and channel. -/
theorem spread_at (a : FVec Ideal S330000x8 .f32) (u : Fin 330000) (k : Fin 8) (z : Fin 16) :
    spread a (ix3 u k z) = a (ix2 u k) := by
  pointwise [spread]

/-- The aggregation reads a weight only at edges that land at a node. -/
theorem aggregate_congr (h : FVec Ideal S10000x128 .f32) (a b : FVec Ideal S330000x8 .f32) (src dst : IVec S330000 32)
    (hab : ∀ (u : Fin 330000) (k : Fin 8) (i : Fin 10000), (dst (ix1 u)).toInt = (i.val : Int) → a (ix2 u k) = b (ix2 u k)) :
    aggregate h a src dst = aggregate h b src dst := by
  refine congrArg (fun z => shapeCast S10000x128 z shapeCasts_S10000x8x16_S10000x128) (scatterAdd_congr _ _ _ _ _ fun j i hj => ?_)
  refine congrArg (HMul.hMul (α := EReal) _) ?_
  show spread a j = spread b j
  idx_vars j
  rw [spread_at, spread_at]
  exact hab _ _ (i 0) (lands3 _ _ _ _ _ hj)

/-- The aggregation with shifted scores is the aggregation without a shift. -/
theorem aggregate_shift (h : FVec Ideal S10000x128 .f32) (e : FVec Ideal S330000x8 .f32) (M : FVec Ideal S10000x8 .f32)
    (hM : ∀ i, ∃ r : ℝ, M i = (r : EReal)) (src dst : IVec S330000 32) :
    aggregate h (alphaR e M dst) src dst = aggregate h (alphaK e dst) src dst :=
  aggregate_congr h _ _ src dst fun u k i hi => alpha_eq e M hM dst u k i hi

end Cert.Gat

end
-- ==== Proof.Pool.lean ====
/- The readout: per graph the sum, the mean and the maximum of the node features, joined and multiplied by the output
   weights. The kernel's sum is a product with a membership matrix and its maximum goes graph by graph; the reference adds
   every node's row up at its graph. Both are the same table. -/
module

public import proofs.«01_k».proof.Proof.Edge
public import proofs.«01_k».proof.Proof.Gen.KernelIdeal.Frame.Region6
public import Idealize.ShloMosaic.Lib.Pipeline.ValueKit

@[expose] public section

set_option maxRecDepth 16384

noncomputable section

namespace Cert.Gat

open Idealize.ShloMosaic Cert.KernelIdeal Cert.KernelIdeal.Gen
open Idealize.ShloMosaic.Pointwise

/-- The sum of `f` over the nodes of graph `g`. -/
def segSum (b : Fin 10000 → BitVec 32) (f : Fin 10000 → EReal) (g : Fin 64) : EReal :=
  ∑ n, if b n = BitVec.ofNat 32 g.val then f n else 0

/-- The maximum of `f` over the nodes of graph `g`, minus infinity at a graph without nodes. -/
def segMax (b : Fin 10000 → BitVec 32) (f : Fin 10000 → EReal) (g : Fin 64) : EReal :=
  Finset.univ.fold max ⊥ fun n => if b n = BitVec.ofNat 32 g.val then f n else ⊥

/-- An equality of words, converted to a number: one or zero. -/
theorem member (a b : BitVec 32) :
    FloatOps.sitofp (F := Ideal) .f32 (BitVec.setWidth 32 (IntOp.cmpi .eq a b)) = if b = a then (1 : EReal) else 0 := by
  by_cases h : b = a
  · subst h
    rw [if_pos rfl]
    have e : BitVec.setWidth 32 (IntOp.cmpi .eq b b) = 1#32 := by simp [IntOp.cmpi]
    rw [e]
    show (((1#32 : BitVec 32).toInt : ℝ) : EReal) = 1
    norm_num
  · rw [if_neg h]
    have e : BitVec.setWidth 32 (IntOp.cmpi .eq a b) = 0#32 := by
      have hb : (a == b) = false := beq_eq_false_iff_ne.mpr (Ne.symm h)
      simp [IntOp.cmpi, hb]
    rw [e]
    show (((0#32 : BitVec 32).toInt : ℝ) : EReal) = 0
    norm_num

/-- A choice on an equality of words. -/
theorem select_eq (a b : BitVec 32) (x y : EReal) : Scalar.select (IntOp.cmpi .eq a b) x y = if a = b then x else y := by
  by_cases h : a = b
  · subst h; rw [if_pos rfl]; simp [Scalar.select, IntOp.cmpi]
  · have hb : (a == b) = false := beq_eq_false_iff_ne.mpr h
    rw [if_neg h]; simp [Scalar.select, IntOp.cmpi, hb]

/-- The kernel's sums. -/
theorem pay6_at (h : Vec Ideal S10000x128 .f32) (b : Vec Ideal S1x10000 .i32) (g : Fin 64) (c : Fin 128) :
    k6_pay6 (F := Ideal) h b (ix2 g c) = segSum (fun n => b (ix2 0 n)) (fun n => h (ix2 n c)) g := by
  pointwise [k6_pay6, k6_pay5, k6_pay4]
  refine Finset.sum_congr rfl fun n _ => ?_
  rw [member]
  split
  · exact one_mul _
  · exact zero_mul _

/-- The kernel's means. -/
theorem pay7_at (h : Vec Ideal S10000x128 .f32) (b : Vec Ideal S1x10000 .i32) (g : Fin 64) (c : Fin 128) :
    k6_pay7 (F := Ideal) h b (ix2 g c)
      = Ideal.div (segSum (fun n => b (ix2 0 n)) (fun n => h (ix2 n c)) g) (max (segSum (fun n => b (ix2 0 n)) (fun _ => 1) g) 1) := by
  pointwise [k6_pay7, k6_pay5]
  rw [pay6_at]
  refine congrArg (fun z => Ideal.div _ (max z 1)) (Finset.sum_congr rfl fun n _ => member _ _)

/-- One graph's row of maxima as the kernel spells it. -/
def rowMax (h : FVec Ideal S10000x128 .f32) (b : IVec S10000x1 32) (g : BitVec 32) : FVec Ideal S1x128 .f32 :=
  shapeCast S1x128 (multiReduction .maximumf [0] S128
    (select (broadcastTo S10000x128 (shapeCast S10000x1 (cmpi .eq b (broadcast S10000x1 g)) shapeCasts_S10000x1_S10000x1) broadcasts_S10000x1_S10000x128)
      h (broadcast S10000x128 (Named.named (F := Ideal) κ "mask" 0xF149F2CA#32)))
    0xFF800000#32 reduces_S10000x128_S128 (.inl rfl) rfl) shapeCasts_S128_S1x128

/-- Sixty-four rows lie on one another as a table. -/
theorem rows_fit (f : Fin 64 → FVec Ideal S1x128 .f32) :
    Shape.Concatenates ((List.ofFn fun n : Fin 64 => (⟨S1x128, f n⟩ : (s : Shape) × (s.Idx → EReal))).map (·.1)) S64x128 0 := by
  rw [List.map_ofFn]
  show Shape.Concatenates (List.ofFn fun _ : Fin 64 => S1x128) S64x128 0
  decide +kernel

/-- The table of the graphs' rows of maxima. -/
def maxTable (h : FVec Ideal S10000x128 .f32) (b : IVec S10000x1 32) : FVec Ideal S64x128 .f32 :=
  concatenate S64x128 0 (List.ofFn fun n : Fin 64 => (⟨S1x128, rowMax h b (BitVec.ofNat 32 n.val)⟩ : (s : Shape) × (s.Idx → EReal)))
    (rows_fit _)

/-- The kernel's mask is minus infinity. -/
theorem mask_bot : Named.named (F := Ideal) (φ := .f32) κ "mask" 0xF149F2CA#32 = (⊥ : EReal) :=
  IdealRules.named_const.ideal_named_scalar _ _ _ _ rfl

/-- A row of maxima, read along it. -/
theorem rowMax_at (h : FVec Ideal S10000x128 .f32) (b : IVec S10000x1 32) (g : Fin 64) (c : Fin 128) :
    rowMax h b (BitVec.ofNat 32 g.val) (ix2 0 c) = segMax (fun n => b (ix2 n 0)) (fun n => h (ix2 n c)) g := by
  pointwise [rowMax]
  rw [mask_bot, ofBits_neg_inf]
  unfold segMax
  refine congrArg (fun f => Finset.fold max ⊥ f Finset.univ) (funext fun n => ?_)
  exact select_eq _ _ _ _

/-- The kernel's maxima. -/
theorem maxTable_at (h : FVec Ideal S10000x128 .f32) (b : IVec S10000x1 32) (g : Fin 64) (c : Fin 128) :
    maxTable h b (ix2 g c) = segMax (fun n => b (ix2 n 0)) (fun n => h (ix2 n c)) g := by
  rw [← rowMax_at]
  unfold maxTable
  pointwise

/-- Equal lists of rows join to equal tables. -/
theorem joined (l l' : List ((s : Shape) × (s.Idx → EReal))) (hl : Shape.Concatenates (l.map (·.1)) S64x128 0)
    (hl' : Shape.Concatenates (l'.map (·.1)) S64x128 0) (h : l = l') : concatenate S64x128 0 l hl = concatenate S64x128 0 l' hl' := by
  subst h
  rfl

/-- The graphs in order. -/
theorem graphs : List.finRange 64 = [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] := by
  decide +kernel

/-- A family over the graphs as a list of its members. -/
theorem listed {α : Type} (f : Fin 64 → α) : List.ofFn f = [f 0, f 1, f 2, f 3, f 4, f 5, f 6, f 7, f 8, f 9, f 10, f 11, f 12, f 13, f 14, f 15, f 16, f 17, f 18, f 19, f 20, f 21, f 22, f 23, f 24, f 25, f 26, f 27, f 28, f 29, f 30, f 31, f 32, f 33, f 34, f 35, f 36, f 37, f 38, f 39, f 40, f 41, f 42, f 43, f 44, f 45, f 46, f 47, f 48, f 49, f 50, f 51, f 52, f 53, f 54, f 55, f 56, f 57, f 58, f 59, f 60, f 61, f 62, f 63] := by
  rw [List.ofFn_eq_map, graphs]
  simp only [List.map_cons, List.map_nil]

/-- The features the readout's body loads are its block's. -/
theorem loadedH (x0 : Vec Ideal S10000x128 .f32) (x1 : Vec Ideal S1x10000 .i32) (x2 : Vec Ideal S10000x1 .i32)
    (x3 : Vec Ideal S384x10 .f32) (x4 : Vec Ideal S1x10 .f32) : k6_pay82 (F := Ideal) x0 x1 x2 x3 x4 = k6_pay4 x0 := by
  funext j
  unfold k6_pay82
  frame_out

/-- The graph numbers the readout's body loads are its block's. -/
theorem loadedB (x0 : Vec Ideal S10000x128 .f32) (x1 : Vec Ideal S1x10000 .i32) (x2 : Vec Ideal S10000x1 .i32)
    (x3 : Vec Ideal S384x10 .f32) (x4 : Vec Ideal S1x10 .f32) : k6_pay83 (F := Ideal) x0 x1 x2 x3 x4 = k6_pay8 (F := Ideal) x2 := by
  funext j
  unfold k6_pay83
  frame_out

/-- The rows the readout's body joins, as a list of the graphs. -/
theorem pay2_ofFn (f : Fin 64 → FVec Ideal S1x128 .f32) (m : FVec Ideal S10000x128 .f32)
    (hm : shapeCast S1x128 (multiReduction (F := Ideal) .maximumf [0] S128 m 0xFF800000#32 reduces_S10000x128_S128 (.inl rfl) rfl) shapeCasts_S128_S1x128 = f 63) :
    k6_pay2 (F := Ideal) (f 0) (f 1) (f 2) (f 3) (f 4) (f 5) (f 6) (f 7) (f 8) (f 9) (f 10) (f 11) (f 12) (f 13) (f 14) (f 15) (f 16) (f 17) (f 18) (f 19) (f 20) (f 21) (f 22) (f 23) (f 24) (f 25) (f 26) (f 27) (f 28) (f 29) (f 30) (f 31) (f 32) (f 33) (f 34) (f 35) (f 36) (f 37) (f 38) (f 39) (f 40) (f 41) (f 42) (f 43) (f 44) (f 45) (f 46) (f 47) (f 48) (f 49) (f 50) (f 51) (f 52) (f 53) (f 54) (f 55) (f 56) (f 57) (f 58) (f 59) (f 60) (f 61) (f 62) m
      = concatenate S64x128 0 (List.ofFn fun n : Fin 64 => (⟨S1x128, f n⟩ : (s : Shape) × (s.Idx → EReal))) (rows_fit f) := by
  unfold k6_pay2
  dsimp only
  rw [hm]
  exact joined _ _ _ _ (listed fun n => (⟨S1x128, f n⟩ : (s : Shape) × (s.Idx → EReal))).symm

/-- The rows of the readout's body are the graphs' rows of maxima. -/
theorem out6_eq (x0 : Vec Ideal S10000x128 .f32) (x1 : Vec Ideal S1x10000 .i32) (x2 : Vec Ideal S10000x1 .i32)
    (x3 : Vec Ideal S384x10 .f32) (x4 : Vec Ideal S1x10 .f32) :
    out6_5 (F := Ideal) x0 x1 x2 x3 x4
      = k6_pay3 (k6_pay6 x0 x1) (k6_pay7 x0 x1) (maxTable (k6_pay4 x0) (k6_pay8 (F := Ideal) x2)) x3 x4 := by
  funext j
  frame_out
  refine congrFun (congrArg (fun z => k6_pay3 (k6_pay6 x0 x1) (k6_pay7 x0 x1) z x3 x4) ?_) j
  refine Eq.trans ?_ (pay2_ofFn (fun n => rowMax (k6_pay4 x0) (k6_pay8 (F := Ideal) x2) (BitVec.ofNat 32 n.val)) (k6_pay1 (k6_pay4 x0) (k6_pay8 (F := Ideal) x2)) rfl)
  rw [loadedH, loadedB]
  rfl

end Cert.Gat

end
-- ==== Proof.PoolRegion.lean ====
/- What the readout's region leaves in its result array, and the rows and columns the region's last three arrays are made of. -/
module

public import proofs.«01_k».proof.Proof.Pool
public import proofs.«01_k».proof.Proof.Gen.KernelIdeal.Frame
public import Idealize.ShloMosaic.Lib.Pipeline.ValueKit

@[expose] public section

set_option maxRecDepth 16384

noncomputable section

namespace Cert.Gat

open Idealize.ShloMosaic Idealize.ShloMosaic.TcCoe Cert.KernelIdeal Cert.KernelIdeal.Gen
open Idealize.ShloMosaic.Pointwise

section Region

variable (V : (c : Dev nD) → (b : Ref sig .tc) → Buf (Elt Ideal) ((c : Thread nD τ).loc b))

/-- Block 0 of the readout's region is its whole array. -/
theorem whole6_0 (c : Dev nD) : iblk6 V c 0 t6_0 = V c (Pipeline.arrRef spec6 0) :=
  funext fun i => congrArg (V c (Pipeline.arrRef spec6 0)) (funext fun a => Fin.ext
    (Pipeline.Window.rect_emb_val_of_index_zero win6_0 t6_0 a (by revert a; decide +kernel) i))

/-- Block 1 of the readout's region is its whole array. -/
theorem whole6_1 (c : Dev nD) : iblk6 V c 1 t6_0 = V c (Pipeline.arrRef spec6 1) :=
  funext fun i => congrArg (V c (Pipeline.arrRef spec6 1)) (funext fun a => Fin.ext
    (Pipeline.Window.rect_emb_val_of_index_zero win6_1 t6_0 a (by revert a; decide +kernel) i))

/-- Block 2 of the readout's region is its whole array. -/
theorem whole6_2 (c : Dev nD) : iblk6 V c 2 t6_0 = V c (Pipeline.arrRef spec6 2) :=
  funext fun i => congrArg (V c (Pipeline.arrRef spec6 2)) (funext fun a => Fin.ext
    (Pipeline.Window.rect_emb_val_of_index_zero win6_2 t6_0 a (by revert a; decide +kernel) i))

/-- Block 3 of the readout's region is its whole array. -/
theorem whole6_3 (c : Dev nD) : iblk6 V c 3 t6_0 = V c (Pipeline.arrRef spec6 3) :=
  funext fun i => congrArg (V c (Pipeline.arrRef spec6 3)) (funext fun a => Fin.ext
    (Pipeline.Window.rect_emb_val_of_index_zero win6_3 t6_0 a (by revert a; decide +kernel) i))

/-- Block 4 of the readout's region is its whole array. -/
theorem whole6_4 (c : Dev nD) : iblk6 V c 4 t6_0 = V c (Pipeline.arrRef spec6 4) :=
  funext fun i => congrArg (V c (Pipeline.arrRef spec6 4)) (funext fun a => Fin.ext
    (Pipeline.Window.rect_emb_val_of_index_zero win6_4 t6_0 a (by revert a; decide +kernel) i))

/-- The readout's region leaves the readout of the arrays it reads. -/
theorem reg6 (c : Dev nD) : (dat6 V c).arrAt 5 cfg6.N
    = k6_pay3 (k6_pay6 (V c (Pipeline.arrRef spec6 0)) (V c (Pipeline.arrRef spec6 1)))
        (k6_pay7 (V c (Pipeline.arrRef spec6 0)) (V c (Pipeline.arrRef spec6 1)))
        (maxTable (k6_pay4 (V c (Pipeline.arrRef spec6 0))) (k6_pay8 (F := Ideal) (V c (Pipeline.arrRef spec6 2))))
        (V c (Pipeline.arrRef spec6 3)) (V c (Pipeline.arrRef spec6 4)) := by
  refine (dat6 V c).arrAt_eq_of_after_last 5 t6_0 (by decide +kernel) _ fun j => ?_
  blk_simp
  rw [after6_5]
  exact congrFun ((congr (congr (congr (congr (congrArg out6_5 (whole6_0 V c)) (whole6_1 V c)) (whole6_2 V c))
    (whole6_3 V c)) (whole6_4 V c)).trans (out6_eq _ _ _ _ _)) j

end Region

section Reads

variable (V : Valuation τ sig (Elt Ideal))

/-- The graph numbers as a row. -/
theorem after6_row (n : Fin 10000) : (StableHlo.after hostOps6 V main_v158 : IVec S1x10000 32) (ix2 0 n) = (V main_arg3 : IVec S10000 32) (ix1 n) := by
  unfold hostOps6
  after_results
  pointwise

/-- The graph numbers as a column. -/
theorem after6_col (n : Fin 10000) : (StableHlo.after hostOps6 V main_v159 : IVec S10000x1 32) (ix2 n 0) = (V main_arg3 : IVec S10000 32) (ix1 n) := by
  unfold hostOps6
  after_results
  pointwise

/-- The output bias as a row. -/
theorem after6_bias (k : Fin 10) : (StableHlo.after hostOps6 V main_v160 : FVec Ideal S1x10 .f32) (ix2 0 k) = (V main_arg23 : FVec Ideal S10 .f32) (ix1 k) := by
  unfold hostOps6
  after_results
  pointwise

end Reads

end Cert.Gat

end
-- ==== Proof.RefDense.lean ====
/- The reference's dense products and head sums are the ones the kernel's opening regions leave. -/
module

public import proofs.«01_k».proof.Proof.Dense
public import proofs.«01_k».proof.Proof.Gen.ReferenceIdeal.Read

@[expose] public section

set_option maxRecDepth 16384

noncomputable section

namespace Cert.Gat

open Idealize.ShloMosaic Cert.ReferenceIdeal Cert.ReferenceIdeal.Gen Cert.ReferenceIdeal.Read
open Idealize.ShloMosaic.Pointwise

variable (x0 : (⟨S10000x128, .f32⟩ : BufTy).Contents (Elt Ideal))
  (x4 : (⟨S128x128, .f32⟩ : BufTy).Contents (Elt Ideal)) (x5 x6 : (⟨S8x16, .f32⟩ : BufTy).Contents (Elt Ideal))

/-- The reference's product of features and weights. -/
theorem v7_dense : val_main_v7 (F := Ideal) x0 x4 = dense x0 x4 := by
  funext j
  idx_vars j
  unfold dense
  pointwise [val_main_v7]

/-- The reference's source heads. -/
theorem v12_heads : val_main_v12 (F := Ideal) x0 x4 x5 = heads x0 x4 x5 := by
  funext j
  idx_vars j
  unfold heads dense
  pointwise [val_main_v12, val_main_v11, val_main_v10, val_main_v9, val_main_v8, val_main_v7, val_main_cst]

/-- The reference's target heads. -/
theorem v16_heads : val_main_v16 (F := Ideal) x0 x4 x6 = heads x0 x4 x6 := by
  funext j
  idx_vars j
  unfold heads dense
  pointwise [val_main_v16, val_main_v15, val_main_v14, val_main_v13, val_main_v8, val_main_v7, val_main_cst_0]

end Cert.Gat

end
-- ==== Proof.Layers.lean ====
/- The reference's layers: each is the closing stage of its aggregated messages, and the second and third aggregate as
   the first does, at their own arguments. -/
module

public import proofs.«01_k».proof.Proof.Post
public import proofs.«01_k».proof.Proof.Gen.ReferenceIdeal.Read

@[expose] public section

set_option maxRecDepth 16384

noncomputable section

namespace Cert.Gat

open Idealize.ShloMosaic Cert.ReferenceIdeal Cert.ReferenceIdeal.Gen Cert.ReferenceIdeal.Read
open Idealize.ShloMosaic.Pointwise

section First

variable (x0 : (⟨S10000x128, .f32⟩ : BufTy).Contents (Elt Ideal)) (x1 : (⟨S2x320000, .i32⟩ : BufTy).Contents (Elt Ideal)) (x4 : (⟨S128x128, .f32⟩ : BufTy).Contents (Elt Ideal)) (x5 x6 : (⟨S8x16, .f32⟩ : BufTy).Contents (Elt Ideal))
  (x7 x8 x9 : (⟨S128, .f32⟩ : BufTy).Contents (Elt Ideal))

/-- The integer zero converted is zero. -/
theorem sitofp_zero : FloatOps.sitofp (F := Ideal) .f32 (0#32) = 0 := by
  show ((((0#32 : BitVec 32).toInt : ℝ)) : EReal) = 0
  simp

/-- Messages plus bias, at a node and a channel. -/
theorem v95_at (n : Fin 10000) (c : Fin 128) : val_main_v95 (F := Ideal) x0 x1 x4 x5 x6 x7 (ix2 n c)
    = val_main_v92 (F := Ideal) x0 x1 x4 x5 x6 (ix2 n c) + x7 (ix1 c) := by
  pointwise [val_main_v95, val_main_v94, val_main_v93]

/-- The reference's normalized messages. -/
theorem v114_at (n : Fin 10000) (c : Fin 128) : val_main_v114 (F := Ideal) x0 x1 x4 x5 x6 x7 x8 x9 (ix2 n c)
    = norm (fun k => val_main_v92 (F := Ideal) x0 x1 x4 x5 x6 (ix2 k c) + x7 (ix1 c)) (x8 (ix1 c)) (x9 (ix1 c)) n := by
  rw [← norm_div]
  simp only [← v95_at]
  pointwise [val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_call3_cst, val_main_call3_v0, val_main_call3_v1, val_main_call3_v2, val_main_call3_v3, val_main_call3_v4, val_main_call3_v5, val_main_call3_v6, val_main_call3_v7, val_main_call3_v8, val_main_call3_v9, val_main_call3_v10, val_main_call3_v11, val_main_call3_v12, val_main_call3_cst_0, val_main_call3_cst_1, val_main_call3_cst_2, val_main_call3_cst_3, val_main_cst_20, val_main_cst_21, val_main_c_22, val_main_cst_23]
  have h : (0 : EReal) < cN := by rw [cN_eq]; exact_mod_cast (by norm_num : (0 : ℝ) < 10000)
  rw [sitofp_zero, sub_zero, if_pos h]
  simp only [mean, variance, v95_at]

/-- The reference's unit as it is written: where the argument is positive itself, elsewhere one times `expm1` of the
    argument with its positive entries set to zero. -/
def refElu (z : FVec Ideal S10000x128 .f32) : FVec Ideal S10000x128 .f32 :=
  select (cmpf .ogt z (broadcastInDim S10000x128 ![] bcast_S_S10000x128 (constant S_ .f32 0x00000000#32))) z
    (mulf (broadcastInDim S10000x128 ![] bcast_S_S10000x128 (constant S_ .f32 0x3F800000#32))
      (Host.expm1 (select (cmpf .ogt z (broadcastInDim S10000x128 ![] bcast_S_S10000x128 (constant S_ .f32 0x00000000#32)))
        (broadcastInDim S10000x128 ![] bcast_S_S10000x128 (constant S_ .f32 0x00000000#32)) z)))

/-- It is the exponential linear unit at every index. -/
theorem refElu_at (z : FVec Ideal S10000x128 .f32) (n : Fin 10000) (c : Fin 128) : refElu z (ix2 n c) = elu (z (ix2 n c)) := by
  unfold elu
  rw [← elu_eq]
  pointwise [refElu]

/-- A layer after its normalization: the unit of the sum with the layer's input. -/
theorem refElu_post (prev : FVec Ideal S10000x128 .f32) : refElu (addf (val_main_v114 (F := Ideal) x0 x1 x4 x5 x6 x7 x8 x9 : FVec Ideal S10000x128 .f32) prev)
    = post (val_main_v92 (F := Ideal) x0 x1 x4 x5 x6) (fun c => x7 (ix1 c)) (fun c => x8 (ix1 c)) (fun c => x9 (ix1 c)) prev := by
  funext j
  idx_vars j
  rw [refElu_at]
  show elu (val_main_v114 (F := Ideal) _ _ _ _ _ _ _ _ _ + _) = _
  rw [v114_at]
  rfl

/-- Adding the zero array changes nothing. -/
theorem addf_zero (z : FVec Ideal S10000x128 .f32) : addf z (fun _ => (0 : EReal)) = z := funext fun j => add_zero (z j)

/-- The reference's first layer is the closing stage of its messages, with nothing added. -/
theorem layer1 : val_main_v115 (F := Ideal) x0 x1 x4 x5 x6 x7 x8 x9
    = post (val_main_v92 (F := Ideal) x0 x1 x4 x5 x6) (fun c => x7 (ix1 c)) (fun c => x8 (ix1 c)) (fun c => x9 (ix1 c))
        (fun _ => 0) := by
  rw [← refElu_post, addf_zero]
  rfl

variable (x10 : (⟨S128x128, .f32⟩ : BufTy).Contents (Elt Ideal)) (x11 x12 : (⟨S8x16, .f32⟩ : BufTy).Contents (Elt Ideal))
  (x13 x14 x15 : (⟨S128, .f32⟩ : BufTy).Contents (Elt Ideal))

/-- The reference's second layer is the closing stage of its messages, its input added. -/
theorem layer2 : val_main_v225 (F := Ideal) x0 x1 x4 x5 x6 x7 x8 x9 x10 x11 x12 x13 x14 x15
    = post (val_main_v92 (F := Ideal) (val_main_v115 (F := Ideal) x0 x1 x4 x5 x6 x7 x8 x9) x1 x10 x11 x12)
        (fun c => x13 (ix1 c)) (fun c => x14 (ix1 c)) (fun c => x15 (ix1 c))
        (val_main_v115 (F := Ideal) x0 x1 x4 x5 x6 x7 x8 x9) := by
  rw [← refElu_post]
  rfl

variable (x16 : (⟨S128x128, .f32⟩ : BufTy).Contents (Elt Ideal)) (x17 x18 : (⟨S8x16, .f32⟩ : BufTy).Contents (Elt Ideal))
  (x19 x20 x21 : (⟨S128, .f32⟩ : BufTy).Contents (Elt Ideal))

/-- The third layer likewise, at the second layer's output. -/
theorem layer3 : val_main_v335 (F := Ideal) x0 x1 x4 x5 x6 x7 x8 x9 x10 x11 x12 x13 x14 x15 x16 x17 x18 x19 x20 x21
    = post (val_main_v92 (F := Ideal) (val_main_v225 (F := Ideal) x0 x1 x4 x5 x6 x7 x8 x9 x10 x11 x12 x13 x14 x15) x1 x16 x17 x18)
        (fun c => x19 (ix1 c)) (fun c => x20 (ix1 c)) (fun c => x21 (ix1 c))
        (val_main_v225 (F := Ideal) x0 x1 x4 x5 x6 x7 x8 x9 x10 x11 x12 x13 x14 x15) := by
  rw [← refElu_post]
  rfl

end First

end Cert.Gat

end
-- ==== Proof.HostReads.lean ====
/- What the kernel program's host stretches compute, in the vocabulary of the edge phase: the edge lists, the scores, the
   leaky activation, the aggregation, and the vectors laid out as rows. -/
module

public import proofs.«01_k».proof.Proof.Edge
public import proofs.«01_k».proof.Proof.Gen.KernelIdeal.Launch
public import Idealize.ShloMosaic.Lib.StableHlo.RunRead
public import Idealize.ShloMosaic.Lib.Claim

@[expose] public section

set_option maxRecDepth 16384

noncomputable section

namespace Cert.Gat

open Idealize.ShloMosaic Idealize.ShloMosaic.TcCoe Cert.KernelIdeal Cert.KernelIdeal.Gen
open Idealize.ShloMosaic.Pointwise

variable (V : Valuation τ sig (Elt Ideal))

/-- One of the two rows of the edge array followed by every node's own number: the sources or the targets. -/
def nodesOf (x : IVec S2x320000 32) (off : Fin 2 → ℕ) (h : S2x320000.Slices off S1x320000) : IVec S330000 32 :=
  concatenate S330000 0 [⟨S320000, shapeCast S320000 (extractStridedSlice S1x320000 off x h) shapeCasts_S1x320000_S320000⟩,
    ⟨S10000, iotaInDim S10000 32 0⟩] concatenates_S320000_S10000_S330000_d0

/-- The sources of the edges. -/
def srcOf (x : IVec S2x320000 32) : IVec S330000 32 := nodesOf x ![0, 0] slices_S2x320000_S1x320000_0_0

/-- The targets of the edges. -/
def dstOf (x : IVec S2x320000 32) : IVec S330000 32 := nodesOf x ![1, 0] slices_S2x320000_S1x320000_1_0

/-- The first stretch leaves the sources of the edges. -/
theorem after0_src : StableHlo.after (hostOps0 (F := Ideal)) V (Proc.devRef .tc main_v3) = srcOf (V (Proc.devRef .tc main_arg1)) := by
  after_results
  rfl

/-- The first stretch leaves the targets of the edges. -/
theorem after0_dst : StableHlo.after (hostOps0 (F := Ideal)) V (Proc.devRef .tc main_v6) = dstOf (V (Proc.devRef .tc main_arg1)) := by
  after_results
  rfl

/-- The first layer has nothing to add: zeros. -/
theorem after0_zero : StableHlo.after (hostOps0 (F := Ideal)) V (Proc.devRef .tc main_v7)
    = ((fun _ => (0 : EReal)) : FVec Ideal S10000x128 .f32) := by
  after_results
  funext j
  idx_vars j
  pointwise

/-- The sum of the two tables read at an edge's two nodes. -/
def pairSum (s t : FVec Ideal S10000x8 .f32) (src dst : IVec S330000 32) : FVec Ideal S330000x8 .f32 :=
  addf (rowsAt s src) (rowsAt t dst)

/-- A table with its negative entries multiplied by `k`. -/
def leaky (e : FVec Ideal S330000x8 .f32) (k : FVec Ideal S_ .f32) : FVec Ideal S330000x8 .f32 :=
  select (cmpf .oge e (broadcastInDim S330000x8 ![] bcast_S_S330000x8 (constant S_ .f32 0x00000000#32))) e
    (mulf (broadcastInDim S330000x8 ![] bcast_S_S330000x8 k) e)

/-- The score is the leaky sum at slope 0.2. -/
theorem leaky_pairSum (s t : FVec Ideal S10000x8 .f32) (src dst : IVec S330000 32) :
    leaky (pairSum s t src dst) (constant S_ .f32 0x3E4CCCCD#32) = score s t src dst := rfl

/-- The first layer's sums over the two tables. -/
theorem after1_sum : StableHlo.after (hostOps1 (F := Ideal)) V (Proc.devRef .tc main_v23)
    = pairSum (V (Proc.devRef .tc main_v8_1)) (V (Proc.devRef .tc main_v8_2)) (V (Proc.devRef .tc main_v3)) (V (Proc.devRef .tc main_v6)) := by
  after_results
  rfl

/-- The first layer's slope. -/
theorem after1_slope : StableHlo.after (hostOps1 (F := Ideal)) V (Proc.devRef .tc main_cst_3)
    = (constant S_ .f32 0x3E4CCCCD#32 : FVec Ideal S_ .f32) := by
  after_results

/-- The first layer's activation. -/
theorem after1_leaky : StableHlo.after (hostOps1_1 (F := Ideal)) V (Proc.devRef .tc main_v24)
    = leaky (V (Proc.devRef .tc main_v23)) (V (Proc.devRef .tc main_cst_3)) := by
  after_results
  rfl

/-- The first layer's aggregation. -/
theorem after1_agg : StableHlo.after (hostOps1_2 (F := Ideal)) V (Proc.devRef .tc main_v53)
    = aggregate (V (Proc.devRef .tc main_v8_0)) (alphaK (V (Proc.devRef .tc main_v24)) (V (Proc.devRef .tc main_v6)))
        (V (Proc.devRef .tc main_v3)) (V (Proc.devRef .tc main_v6)) := by
  after_results
  rfl

/-- Argument `arg7` laid out as a row, read along it. -/
theorem after1_v54 (c : Fin 128) : StableHlo.after (hostOps1_2 (F := Ideal)) V (Proc.devRef .tc main_v54) (ix2 0 c)
    = (V (Proc.devRef .tc main_arg7) : FVec Ideal S128 .f32) (ix1 c) := by
  after_results
  pointwise

/-- Argument `arg8` laid out as a row, read along it. -/
theorem after1_v55 (c : Fin 128) : StableHlo.after (hostOps1_2 (F := Ideal)) V (Proc.devRef .tc main_v55) (ix2 0 c)
    = (V (Proc.devRef .tc main_arg8) : FVec Ideal S128 .f32) (ix1 c) := by
  after_results
  pointwise

/-- Argument `arg9` laid out as a row, read along it. -/
theorem after1_v56 (c : Fin 128) : StableHlo.after (hostOps1_2 (F := Ideal)) V (Proc.devRef .tc main_v56) (ix2 0 c)
    = (V (Proc.devRef .tc main_arg9) : FVec Ideal S128 .f32) (ix1 c) := by
  after_results
  pointwise

/-- The second layer's sums over the two tables. -/
theorem after3_sum : StableHlo.after (hostOps3 (F := Ideal)) V (Proc.devRef .tc main_v73)
    = pairSum (V (Proc.devRef .tc main_v58_1)) (V (Proc.devRef .tc main_v58_2)) (V (Proc.devRef .tc main_v3)) (V (Proc.devRef .tc main_v6)) := by
  after_results
  rfl

/-- The second layer's slope. -/
theorem after3_slope : StableHlo.after (hostOps3 (F := Ideal)) V (Proc.devRef .tc main_cst_15)
    = (constant S_ .f32 0x3E4CCCCD#32 : FVec Ideal S_ .f32) := by
  after_results

/-- The second layer's activation. -/
theorem after3_leaky : StableHlo.after (hostOps3_1 (F := Ideal)) V (Proc.devRef .tc main_v74)
    = leaky (V (Proc.devRef .tc main_v73)) (V (Proc.devRef .tc main_cst_15)) := by
  after_results
  rfl

/-- The second layer's aggregation. -/
theorem after3_agg : StableHlo.after (hostOps3_2 (F := Ideal)) V (Proc.devRef .tc main_v103)
    = aggregate (V (Proc.devRef .tc main_v58_0)) (alphaK (V (Proc.devRef .tc main_v74)) (V (Proc.devRef .tc main_v6)))
        (V (Proc.devRef .tc main_v3)) (V (Proc.devRef .tc main_v6)) := by
  after_results
  rfl

/-- Argument `arg13` laid out as a row, read along it. -/
theorem after3_v104 (c : Fin 128) : StableHlo.after (hostOps3_2 (F := Ideal)) V (Proc.devRef .tc main_v104) (ix2 0 c)
    = (V (Proc.devRef .tc main_arg13) : FVec Ideal S128 .f32) (ix1 c) := by
  after_results
  pointwise

/-- Argument `arg14` laid out as a row, read along it. -/
theorem after3_v105 (c : Fin 128) : StableHlo.after (hostOps3_2 (F := Ideal)) V (Proc.devRef .tc main_v105) (ix2 0 c)
    = (V (Proc.devRef .tc main_arg14) : FVec Ideal S128 .f32) (ix1 c) := by
  after_results
  pointwise

/-- Argument `arg15` laid out as a row, read along it. -/
theorem after3_v106 (c : Fin 128) : StableHlo.after (hostOps3_2 (F := Ideal)) V (Proc.devRef .tc main_v106) (ix2 0 c)
    = (V (Proc.devRef .tc main_arg15) : FVec Ideal S128 .f32) (ix1 c) := by
  after_results
  pointwise

/-- The third layer's sums over the two tables. -/
theorem after5_sum : StableHlo.after (hostOps5 (F := Ideal)) V (Proc.devRef .tc main_v123)
    = pairSum (V (Proc.devRef .tc main_v108_1)) (V (Proc.devRef .tc main_v108_2)) (V (Proc.devRef .tc main_v3)) (V (Proc.devRef .tc main_v6)) := by
  after_results
  rfl

/-- The third layer's slope. -/
theorem after5_slope : StableHlo.after (hostOps5 (F := Ideal)) V (Proc.devRef .tc main_cst_27)
    = (constant S_ .f32 0x3E4CCCCD#32 : FVec Ideal S_ .f32) := by
  after_results

/-- The third layer's activation. -/
theorem after5_leaky : StableHlo.after (hostOps5_1 (F := Ideal)) V (Proc.devRef .tc main_v124)
    = leaky (V (Proc.devRef .tc main_v123)) (V (Proc.devRef .tc main_cst_27)) := by
  after_results
  rfl

/-- The third layer's aggregation. -/
theorem after5_agg : StableHlo.after (hostOps5_2 (F := Ideal)) V (Proc.devRef .tc main_v153)
    = aggregate (V (Proc.devRef .tc main_v108_0)) (alphaK (V (Proc.devRef .tc main_v124)) (V (Proc.devRef .tc main_v6)))
        (V (Proc.devRef .tc main_v3)) (V (Proc.devRef .tc main_v6)) := by
  after_results
  rfl

/-- Argument `arg19` laid out as a row, read along it. -/
theorem after5_v154 (c : Fin 128) : StableHlo.after (hostOps5_2 (F := Ideal)) V (Proc.devRef .tc main_v154) (ix2 0 c)
    = (V (Proc.devRef .tc main_arg19) : FVec Ideal S128 .f32) (ix1 c) := by
  after_results
  pointwise

/-- Argument `arg20` laid out as a row, read along it. -/
theorem after5_v155 (c : Fin 128) : StableHlo.after (hostOps5_2 (F := Ideal)) V (Proc.devRef .tc main_v155) (ix2 0 c)
    = (V (Proc.devRef .tc main_arg20) : FVec Ideal S128 .f32) (ix1 c) := by
  after_results
  pointwise

/-- Argument `arg21` laid out as a row, read along it. -/
theorem after5_v156 (c : Fin 128) : StableHlo.after (hostOps5_2 (F := Ideal)) V (Proc.devRef .tc main_v156) (ix2 0 c)
    = (V (Proc.devRef .tc main_arg21) : FVec Ideal S128 .f32) (ix1 c) := by
  after_results
  pointwise

end Cert.Gat

end
-- ==== Proof.RefChain.lean ====
/- The reference's layers in the vocabulary of the edge phase: its dense products, its scores and its aggregation, and one
   whole layer as a function of the features. -/
module

public import proofs.«01_k».proof.Proof.RefDense
public import proofs.«01_k».proof.Proof.Layers
public import proofs.«01_k».proof.Proof.HostReads

@[expose] public section

set_option maxRecDepth 16384

noncomputable section

namespace Cert.Gat

open Idealize.ShloMosaic Cert.ReferenceIdeal Cert.ReferenceIdeal.Gen Cert.ReferenceIdeal.Read
open Idealize.ShloMosaic.Pointwise

variable (x0 : (⟨S10000x128, .f32⟩ : BufTy).Contents (Elt Ideal)) (x1 : (⟨S2x320000, .i32⟩ : BufTy).Contents (Elt Ideal))
  (x4 : (⟨S128x128, .f32⟩ : BufTy).Contents (Elt Ideal)) (x5 x6 : (⟨S8x16, .f32⟩ : BufTy).Contents (Elt Ideal))

/-- The reference's sources are the edge array's first row and every node. -/
theorem v3_src : val_main_v3 (F := Ideal) x1 = srcOf x1 := rfl

/-- The reference's targets are the edge array's second row and every node. -/
theorem v6_dst : val_main_v6 (F := Ideal) x1 = dstOf x1 := rfl

/-- The reference's scores. -/
theorem v32_score : val_main_v32 (F := Ideal) x0 x1 x4 x5 x6
    = score (val_main_v12 x0 x4 x5) (val_main_v16 x0 x4 x6) (val_main_v3 x1) (val_main_v6 x1) := rfl

/-- The reference's aggregation: the weights are shifted by its table of per-node maxima. -/
theorem v92_agg : val_main_v92 (F := Ideal) x0 x1 x4 x5 x6
    = aggregate (val_main_v7 x0 x4) (alphaR (val_main_v32 x0 x1 x4 x5 x6) (val_main_v46 x0 x1 x4 x5 x6) (val_main_v6 x1))
        (val_main_v3 x1) (val_main_v6 x1) := rfl

/-- A table with its infinite entries replaced by zero. -/
def guarded (M : FVec Ideal S10000x8 .f32) : FVec Ideal S10000x8 .f32 :=
  select (cmpf .olt (Host.absf M) (broadcastInDim S10000x8 ![] bcast_S_S10000x8 (constant S_ .f32 0x7F800000#32))) M
    (broadcastInDim S10000x8 ![] bcast_S_S10000x8 (constant S_ .f32 0x00000000#32))

/-- Such a table is a real number everywhere. -/
theorem guarded_real (M : FVec Ideal S10000x8 .f32) (i : S10000x8.Idx) : ∃ r : ℝ, guarded M i = (r : EReal) := by
  idx_vars i
  obtain ⟨r, hr⟩ := shift_real (M (ix2 i0 i1))
  refine ⟨r, Eq.trans ?_ hr⟩
  pointwise [guarded]
  rw [ofBits_inf]
  rfl

/-- The reference's shift is its table of maxima, guarded. -/
theorem v46_guarded : val_main_v46 (F := Ideal) x0 x1 x4 x5 x6 = guarded (val_main_v42 x0 x1 x4 x5 x6) := by
  unfold val_main_v46 val_main_v45 val_main_v43
  rfl

/-- The reference's shift is a real number everywhere. -/
theorem v46_real (i : S10000x8.Idx) : ∃ r : ℝ, val_main_v46 (F := Ideal) x0 x1 x4 x5 x6 i = (r : EReal) := by
  rw [v46_guarded]
  exact guarded_real _ i

/-- The reference's aggregation is the unshifted one of the shared dense products and scores. -/
theorem v92_eq : val_main_v92 (F := Ideal) x0 x1 x4 x5 x6
    = aggregate (dense x0 x4) (alphaK (score (heads x0 x4 x5) (heads x0 x4 x6) (srcOf x1) (dstOf x1)) (dstOf x1)) (srcOf x1) (dstOf x1) := by
  rw [v92_agg, aggregate_shift _ _ _ (v46_real x0 x1 x4 x5 x6), v32_score, v7_dense, v12_heads, v16_heads, v3_src, v6_dst]

end Cert.Gat

end
-- ==== Proof.RefPool.lean ====
/- The reference's readout, and the kernel's equal to it. -/
module

public import proofs.«01_k».proof.Proof.Pool
public import proofs.«01_k».proof.Proof.Gen.ReferenceIdeal.Read

@[expose] public section

set_option maxRecDepth 16384

noncomputable section

namespace Cert.Gat

open Idealize.ShloMosaic Cert.ReferenceIdeal Cert.ReferenceIdeal.Gen
open Idealize.ShloMosaic.Pointwise

/-- The nodes' graph numbers as a column. -/
def graphCol (b : IVec S10000 32) : IVec S10000x1 32 := broadcastInDim S10000x1 ![0] bcast_S10000_S10000x1_0 b

/-- The reference's sums: every node's row added up at its graph. -/
def rSum (h : FVec Ideal S10000x128 .f32) (b : IVec S10000 32) : FVec Ideal S64x128 .f32 :=
  Host.scatterAdd scatter_S64x128_S10000x1_S10000x128_1_0_0_1
    (broadcastInDim S64x128 ![] bcast_S_S64x128 (constant S_ .f32 0x00000000#32)) (graphCol b) h

/-- The reference's node counts: a one added up at every node's graph. -/
def rCount (b : IVec S10000 32) : FVec Ideal S64x1 .f32 :=
  Host.scatterAdd scatter_S64x1_S10000x1_S10000x1_1_0_0_1
    (broadcastInDim S64x1 ![] bcast_S_S64x1 (constant S_ .f32 0x00000000#32)) (graphCol b)
    (broadcastInDim S10000x1 ![] bcast_S_S10000x1 (constant S_ .f32 0x3F800000#32))

/-- The reference's means. -/
def rMean (h : FVec Ideal S10000x128 .f32) (b : IVec S10000 32) : FVec Ideal S64x128 .f32 :=
  Host.divf (rSum h b) (broadcastInDim S64x128 ![0, 1] bcast_S64x1_S64x128_0_1
    (maximumf (rCount b) (broadcastInDim S64x1 ![] bcast_S_S64x1 (constant S_ .f32 0x3F800000#32))))

/-- The node features at every graph, those of other graphs' nodes replaced by minus infinity. -/
def rMasked (h : FVec Ideal S10000x128 .f32) (b : IVec S10000 32) : FVec Ideal S64x10000x128 .f32 :=
  select (broadcastInDim S64x10000x128 ![0, 1, 2] bcast_S64x10000x1_S64x10000x128_0_1_2
      (broadcastInDim S64x10000x1 ![0, 1] bcast_S64x10000_S64x10000x1_0_1
        (cmpi .eq (broadcastInDim S64x10000 ![0, 1] bcast_S64x1_S64x10000_0_1 (broadcastInDim S64x1 ![0] bcast_S64_S64x1_0 (iotaInDim S64 32 0)))
          (broadcastInDim S64x10000 ![0, 1] bcast_S1x10000_S64x10000_0_1 (broadcastInDim S1x10000 ![1] bcast_S10000_S1x10000_1 b)))))
    (broadcastInDim S64x10000x128 ![0, 1, 2] bcast_S1x10000x128_S64x10000x128_0_1_2 (broadcastInDim S1x10000x128 ![1, 2] bcast_S10000x128_S1x10000x128_1_2 h))
    (broadcastInDim S64x10000x128 ![] bcast_S_S64x10000x128 (constant S_ .f32 0xFF800000#32))

/-- The reference's maxima. -/
def rMax (h : FVec Ideal S10000x128 .f32) (b : IVec S10000 32) : FVec Ideal S64x128 .f32 :=
  Host.reduce (FloatOps.maximumf (F := Ideal) (φ := .f32)) (rMasked h b) (constant (F := Ideal) S_ .f32 0xFF800000#32) reducesTo_S64x10000x128_S64x128_d1 h_S_

/-- The reference's last product: the three tables joined, times the output weights, plus the output bias. -/
def rOut (mean sum mx : FVec Ideal S64x128 .f32) (wo : FVec Ideal S384x10 .f32) (bo : FVec Ideal S10 .f32) : FVec Ideal S64x10 .f32 :=
  addf (Host.dotGeneral dot_S64x384_S384x10_S64x10_1_0_0_1_n_n none
      (concatenate S64x384 1 [⟨S64x128, mean⟩, ⟨S64x128, sum⟩, ⟨S64x128, mx⟩] concatenates_S64x128_S64x128_S64x128_S64x384_d1) wo)
    (broadcastInDim S64x10 ![0, 1] bcast_S1x10_S64x10_0_1 (broadcastInDim S1x10 ![1] bcast_S10_S1x10_1 bo))

/-- The reference's readout of node features. -/
def refPool (h : FVec Ideal S10000x128 .f32) (b : IVec S10000 32) (wo : FVec Ideal S384x10 .f32) (bo : FVec Ideal S10 .f32) :
    FVec Ideal S64x10 .f32 := rOut (rMean h b) (rSum h b) (rMax h b) wo bo

/-- A sum over the updates that one row's predicate and one column select is a sum over the rows. -/
theorem sum_rows {B : ℕ} (P : Fin 10000 → Prop) [DecidablePred P] (c : Fin B) (f : (⟨2, ![10000, B]⟩ : Shape).Idx → EReal)
    (S : Finset (⟨2, ![10000, B]⟩ : Shape).Idx) (hS : ∀ (u : Fin 10000) (y : Fin B), ix2 u y ∈ S ↔ P u ∧ y = c) :
    ∑ j ∈ S, f j = ∑ u, if P u then f (ix2 u c) else 0 := by
  rw [← Finset.sum_filter]
  symm
  refine Finset.sum_bij (fun u _ => ix2 u c) (fun u hu => (hS u c).mpr ⟨(Finset.mem_filter.mp hu).2, rfl⟩)
    (fun u _ v _ e => congrFun e 0) (fun j hj => ?_) (fun u _ => rfl)
  obtain ⟨u, y, rfl⟩ : ∃ (u : Fin 10000) (y : Fin B), j = ix2 u y := ⟨j 0, j 1, by funext a; fin_cases a <;> rfl⟩
  obtain ⟨hp, rfl⟩ := (hS _ _).mp hj
  exact ⟨_, Finset.mem_filter.mpr ⟨Finset.mem_univ _, hp⟩, rfl⟩

/-- The column at a node. -/
theorem graphCol_at (b : IVec S10000 32) (u : Fin 10000) : graphCol b (ix2 u 0) = b (ix1 u) := by
  pointwise [graphCol]

/-- A word's signed value is a graph number exactly when the word is that number's. -/
theorem toInt_graph (x : BitVec 32) (g : Fin 64) : x.toInt = (g.val : Int) ↔ x = BitVec.ofNat 32 g.val := by
  have hg := g.isLt
  constructor
  · exact fun h => word_of_toInt x ⟨g.val, by omega⟩ h
  · rintro rfl
    exact StableHlo.Predicate.toInt_ofNat_small _ (by omega)

/-- Where a node's row lands: at its own graph and column. -/
theorem lands_sum (b : IVec S10000 32) (u : Fin 10000) (y : Fin 128) (g : Fin 64) (c : Fin 128) :
    scatter_S64x128_S10000x1_S10000x128_1_0_0_1.resultIdx? (ix2 u y) (graphCol b) = some (ix2 g c)
      ↔ b (ix1 u) = BitVec.ofNat 32 g.val ∧ y = c := by
  rw [Routing.resultIdx?_eq_some, ← toInt_graph]
  have h0 : scatter_S64x128_S10000x1_S10000x128_1_0_0_1.start (ix2 u y) (graphCol b) 0 = (b (ix1 u)).toInt := by
    rw [← graphCol_at b u]
    exact congrArg (fun q => (graphCol b q).toInt) (funext fun a => by fin_cases a <;> rfl)
  have h1 : scatter_S64x128_S10000x1_S10000x128_1_0_0_1.start (ix2 u y) (graphCol b) 1 = 0 := rfl
  have w0 : scatter_S64x128_S10000x1_S10000x128_1_0_0_1.window (ix2 u y) 0 = 0 := rfl
  have w1 : scatter_S64x128_S10000x1_S10000x128_1_0_0_1.window (ix2 u y) 1 = y.val := rfl
  refine Fin.forall_fin_two.trans ?_
  rw [h0, h1, w0, w1]
  show _ + ((0 : Nat) : Int) = (g.val : Int) ∧ 0 + (y.val : Int) = (c.val : Int) ↔ _
  rw [Fin.ext_iff]
  omega

/-- Where a node's one lands: at its own graph. -/
theorem lands_count (b : IVec S10000 32) (u : Fin 10000) (y : Fin 1) (g : Fin 64) (c : Fin 1) :
    scatter_S64x1_S10000x1_S10000x1_1_0_0_1.resultIdx? (ix2 u y) (graphCol b) = some (ix2 g c)
      ↔ b (ix1 u) = BitVec.ofNat 32 g.val ∧ y = c := by
  rw [Routing.resultIdx?_eq_some, ← toInt_graph]
  have h0 : scatter_S64x1_S10000x1_S10000x1_1_0_0_1.start (ix2 u y) (graphCol b) 0 = (b (ix1 u)).toInt := by
    rw [← graphCol_at b u]
    exact congrArg (fun q => (graphCol b q).toInt) (funext fun a => by fin_cases a <;> rfl)
  have h1 : scatter_S64x1_S10000x1_S10000x1_1_0_0_1.start (ix2 u y) (graphCol b) 1 = 0 := rfl
  have w0 : scatter_S64x1_S10000x1_S10000x1_1_0_0_1.window (ix2 u y) 0 = 0 := rfl
  have w1 : scatter_S64x1_S10000x1_S10000x1_1_0_0_1.window (ix2 u y) 1 = y.val := rfl
  refine Fin.forall_fin_two.trans ?_
  rw [h0, h1, w0, w1]
  show _ + ((0 : Nat) : Int) = (g.val : Int) ∧ 0 + (y.val : Int) = (c.val : Int) ↔ _
  rw [Fin.ext_iff]
  omega

/-- The reference's sums are the sums over the graphs' nodes. -/
theorem rSum_at (h : FVec Ideal S10000x128 .f32) (b : IVec S10000 32) (g : Fin 64) (c : Fin 128) :
    rSum h b (ix2 g c) = segSum (fun n => b (ix1 n)) (fun n => h (ix2 n c)) g := by
  unfold rSum
  rw [scatterAdd_at, sum_rows (fun u => b (ix1 u) = BitVec.ofNat 32 g.val) c h _ fun u y => by
    rw [Finset.mem_filter]; exact (and_iff_right (Finset.mem_univ _)).trans (lands_sum b u y g c)]
  have h0 : broadcastInDim S64x128 ![] bcast_S_S64x128 (constant (F := Ideal) S_ .f32 0x00000000#32) (ix2 g c) = (0 : EReal) := by
    pointwise
  rw [h0, zero_add]
  rfl

/-- The reference's counts are the sums of ones over the graphs' nodes. -/
theorem rCount_at (b : IVec S10000 32) (g : Fin 64) :
    rCount b (ix2 g 0) = segSum (fun n => b (ix1 n)) (fun _ => 1) g := by
  unfold rCount
  rw [scatterAdd_at, sum_rows (fun u => b (ix1 u) = BitVec.ofNat 32 g.val) (0 : Fin 1) _ _ fun u y => by
    rw [Finset.mem_filter]; exact (and_iff_right (Finset.mem_univ _)).trans (lands_count b u y g 0)]
  have h0 : broadcastInDim S64x1 ![] bcast_S_S64x1 (constant (F := Ideal) S_ .f32 0x00000000#32) (ix2 g 0) = (0 : EReal) := by
    pointwise
  have h1 : ∀ u : Fin 10000, broadcastInDim S10000x1 ![] bcast_S_S10000x1 (constant (F := Ideal) S_ .f32 0x3F800000#32) (ix2 u 0) = (1 : EReal) := fun u => by
    pointwise
  rw [h0, zero_add]
  exact Finset.sum_congr rfl fun u _ => by rw [h1]

/-- The reference's means. -/
theorem rMean_at (h : FVec Ideal S10000x128 .f32) (b : IVec S10000 32) (g : Fin 64) (c : Fin 128) :
    rMean h b (ix2 g c)
      = Ideal.div (segSum (fun n => b (ix1 n)) (fun n => h (ix2 n c)) g) (max (segSum (fun n => b (ix1 n)) (fun _ => 1) g) 1) := by
  rw [← rSum_at, ← rCount_at]
  pointwise [rMean]

/-- The reference's maxima are the maxima over the graphs' nodes. -/
theorem rMax_at (h : FVec Ideal S10000x128 .f32) (b : IVec S10000 32) (g : Fin 64) (c : Fin 128) :
    rMax h b (ix2 g c) = segMax (fun n => b (ix1 n)) (fun n => h (ix2 n c)) g := by
  unfold rMax
  pointwise
  rw [ofBits_neg_inf]
  unfold segMax
  refine congrArg (fun f => Finset.fold max ⊥ f Finset.univ) (funext fun n => ?_)
  unfold rMasked
  pointwise
  rw [ofBits_neg_inf, select_eq]
  exact if_congr eq_comm rfl rfl

/-- The kernel's readout is the reference's. -/
theorem pool_eq (h : FVec Ideal S10000x128 .f32) (b : IVec S10000 32) (wo : FVec Ideal S384x10 .f32) (bo : FVec Ideal S10 .f32)
    (brow : IVec S1x10000 32) (bcol : IVec S10000x1 32) (bor : FVec Ideal S1x10 .f32)
    (hrow : ∀ n, brow (ix2 0 n) = b (ix1 n)) (hcol : ∀ n, bcol (ix2 n 0) = b (ix1 n)) (hbo : ∀ c, bor (ix2 0 c) = bo (ix1 c)) :
    Cert.KernelIdeal.Gen.k6_pay3 (F := Ideal) (Cert.KernelIdeal.Gen.k6_pay6 (F := Ideal) h brow) (Cert.KernelIdeal.Gen.k6_pay7 (F := Ideal) h brow)
        (maxTable (Cert.KernelIdeal.Gen.k6_pay4 (F := Ideal) h) (Cert.KernelIdeal.Gen.k6_pay8 (F := Ideal) bcol)) wo bor
      = refPool h b wo bo := by
  have hr : (fun n => brow (ix2 0 n)) = fun n => b (ix1 n) := funext hrow
  have e1 : Cert.KernelIdeal.Gen.k6_pay6 (F := Ideal) h brow = rSum h b := by
    funext j
    idx_vars j
    exact (pay6_at _ _ _ _).trans ((congrArg (fun z => segSum z _ _) hr).trans (rSum_at _ _ _ _).symm)
  have e2 : Cert.KernelIdeal.Gen.k6_pay7 (F := Ideal) h brow = rMean h b := by
    funext j
    idx_vars j
    exact (pay7_at _ _ _ _).trans ((congrArg (fun z => Ideal.div (segSum z _ _) (max (segSum z _ _) 1)) hr).trans (rMean_at _ _ _ _).symm)
  have e4 : Cert.KernelIdeal.Gen.k6_pay4 (F := Ideal) h = h := by
    funext j
    idx_vars j
    pointwise [Cert.KernelIdeal.Gen.k6_pay4]
  have e8 : Cert.KernelIdeal.Gen.k6_pay8 (F := Ideal) bcol = bcol := by
    funext j
    idx_vars j
    pointwise [Cert.KernelIdeal.Gen.k6_pay8]
  have e3 : maxTable h bcol = rMax h b := by
    funext j
    idx_vars j
    exact (maxTable_at _ _ _ _).trans ((congrArg (fun z => segMax z _ _) (funext hcol)).trans (rMax_at _ _ _ _).symm)
  rw [e1, e2, e4, e8, e3]
  unfold refPool
  generalize rSum h b = s
  generalize rMean h b = t
  generalize rMax h b = u
  funext j
  idx_vars j
  pointwise [Cert.KernelIdeal.Gen.k6_pay3, rOut]
  rw [hbo]

end Cert.Gat

end
-- ==== Proof.KernelValue.lean ====
/- The kernel program's result array after its run, as the reference's value of the launch's arguments: the boundaries'
   contents are read one after another, layer by layer, and the readout closes. -/
module

public import proofs.«01_k».proof.Proof.KernelRun
public import proofs.«01_k».proof.Proof.Dense
public import proofs.«01_k».proof.Proof.PostRegions
public import proofs.«01_k».proof.Proof.PoolRegion
public import proofs.«01_k».proof.Proof.RefChain
public import proofs.«01_k».proof.Proof.RefPool

@[expose] public section

set_option maxRecDepth 16384

noncomputable section

namespace Cert.Gat

open Idealize.ShloMosaic Idealize.ShloMosaic.TcCoe Cert.KernelIdeal Cert.KernelIdeal.Gen
open Idealize.ShloMosaic.Pointwise

/-- A layer's attention: the transformed features added up along the edges with the attention weights. -/
def attend (x : FVec Ideal S10000x128 .f32) (e : IVec S2x320000 32) (w : FVec Ideal S128x128 .f32) (s t : FVec Ideal S8x16 .f32) :
    FVec Ideal S10000x128 .f32 :=
  aggregate (dense x w) (alphaK (score (heads x w s) (heads x w t) (srcOf e) (dstOf e)) (dstOf e)) (srcOf e) (dstOf e)

variable (m : (ℓ : Loc nD τ sig) → Buf (Elt Ideal) ℓ) (ρ : Dev nD → PrngReg) (c : Dev nD)

/-- An argument's contents at the launch. -/
abbrev given (a : Ref sig .tc) : Buf (Elt Ideal) ((c : Thread nD τ).loc a) := m ((c : Thread nD τ).loc a)

/-- The edges' sources at boundary 2. -/
theorem src2 : W2 m ρ c (Proc.devRef .tc main_v3) = srcOf (given m c main_arg1) :=
  (W2_of m ρ c main_v3 (by decide +kernel)).trans <| after0_src (W0 m ρ c)

/-- The edges' sources at boundary 4. -/
theorem src4 : W4 m ρ c (Proc.devRef .tc main_v3) = srcOf (given m c main_arg1) :=
  (W4_of m ρ c main_v3 (by decide +kernel)).trans <| (W3_of m ρ c main_v3 (by decide +kernel)).trans <| src2 m ρ c

/-- The edges' sources at boundary 7. -/
theorem src7 : W7 m ρ c (Proc.devRef .tc main_v3) = srcOf (given m c main_arg1) :=
  (W7_of m ρ c main_v3 (by decide +kernel)).trans <| (W6_of m ρ c main_v3 (by decide +kernel)).trans <| (W5_of m ρ c main_v3 (by decide +kernel)).trans <| src4 m ρ c

/-- The edges' sources at boundary 9. -/
theorem src9 : W9 m ρ c (Proc.devRef .tc main_v3) = srcOf (given m c main_arg1) :=
  (W9_of m ρ c main_v3 (by decide +kernel)).trans <| (W8_of m ρ c main_v3 (by decide +kernel)).trans <| src7 m ρ c

/-- The edges' sources at boundary 12. -/
theorem src12 : W12 m ρ c (Proc.devRef .tc main_v3) = srcOf (given m c main_arg1) :=
  (W12_of m ρ c main_v3 (by decide +kernel)).trans <| (W11_of m ρ c main_v3 (by decide +kernel)).trans <| (W10_of m ρ c main_v3 (by decide +kernel)).trans <| src9 m ρ c

/-- The edges' sources at boundary 14. -/
theorem src14 : W14 m ρ c (Proc.devRef .tc main_v3) = srcOf (given m c main_arg1) :=
  (W14_of m ρ c main_v3 (by decide +kernel)).trans <| (W13_of m ρ c main_v3 (by decide +kernel)).trans <| src12 m ρ c

/-- The edges' targets at boundary 2. -/
theorem dst2 : W2 m ρ c (Proc.devRef .tc main_v6) = dstOf (given m c main_arg1) :=
  (W2_of m ρ c main_v6 (by decide +kernel)).trans <| after0_dst (W0 m ρ c)

/-- The edges' targets at boundary 4. -/
theorem dst4 : W4 m ρ c (Proc.devRef .tc main_v6) = dstOf (given m c main_arg1) :=
  (W4_of m ρ c main_v6 (by decide +kernel)).trans <| (W3_of m ρ c main_v6 (by decide +kernel)).trans <| dst2 m ρ c

/-- The edges' targets at boundary 7. -/
theorem dst7 : W7 m ρ c (Proc.devRef .tc main_v6) = dstOf (given m c main_arg1) :=
  (W7_of m ρ c main_v6 (by decide +kernel)).trans <| (W6_of m ρ c main_v6 (by decide +kernel)).trans <| (W5_of m ρ c main_v6 (by decide +kernel)).trans <| dst4 m ρ c

/-- The edges' targets at boundary 9. -/
theorem dst9 : W9 m ρ c (Proc.devRef .tc main_v6) = dstOf (given m c main_arg1) :=
  (W9_of m ρ c main_v6 (by decide +kernel)).trans <| (W8_of m ρ c main_v6 (by decide +kernel)).trans <| dst7 m ρ c

/-- The edges' targets at boundary 12. -/
theorem dst12 : W12 m ρ c (Proc.devRef .tc main_v6) = dstOf (given m c main_arg1) :=
  (W12_of m ρ c main_v6 (by decide +kernel)).trans <| (W11_of m ρ c main_v6 (by decide +kernel)).trans <| (W10_of m ρ c main_v6 (by decide +kernel)).trans <| dst9 m ρ c

/-- The edges' targets at boundary 14. -/
theorem dst14 : W14 m ρ c (Proc.devRef .tc main_v6) = dstOf (given m c main_arg1) :=
  (W14_of m ρ c main_v6 (by decide +kernel)).trans <| (W13_of m ρ c main_v6 (by decide +kernel)).trans <| dst12 m ρ c

/-- The first layer's transformed features. -/
theorem h1 : W2 m ρ c (Proc.devRef .tc main_v8_0) = dense (W1 m ρ c (Proc.devRef .tc main_arg0)) (given m c main_arg4) :=
  (W2_arr m ρ c 4).trans <| (reg0_h (V1 m ρ) c).trans <| congrArg (dense (W1 m ρ c (Proc.devRef .tc main_arg0))) (W1_args m ρ c main_arg4 (by decide +kernel))

/-- The first layer's sums for the edges' sources. -/
theorem s1 : W2 m ρ c (Proc.devRef .tc main_v8_1) = heads (W1 m ρ c (Proc.devRef .tc main_arg0)) (given m c main_arg4) (given m c main_arg5) :=
  (W2_arr m ρ c 5).trans <| (reg0_s (V1 m ρ) c).trans <| congrArg₂ (heads (W1 m ρ c (Proc.devRef .tc main_arg0))) (W1_args m ρ c main_arg4 (by decide +kernel)) (W1_args m ρ c main_arg5 (by decide +kernel))

/-- The first layer's sums for the edges' targets. -/
theorem t1 : W2 m ρ c (Proc.devRef .tc main_v8_2) = heads (W1 m ρ c (Proc.devRef .tc main_arg0)) (given m c main_arg4) (given m c main_arg6) :=
  (W2_arr m ρ c 6).trans <| (reg0_d (V1 m ρ) c).trans <| congrArg₂ (heads (W1 m ρ c (Proc.devRef .tc main_arg0))) (W1_args m ρ c main_arg4 (by decide +kernel)) (W1_args m ρ c main_arg6 (by decide +kernel))

/-- The first layer's scores. -/
theorem score1 : W4 m ρ c (Proc.devRef .tc main_v24)
    = score (heads (W1 m ρ c (Proc.devRef .tc main_arg0)) (given m c main_arg4) (given m c main_arg5)) (heads (W1 m ρ c (Proc.devRef .tc main_arg0)) (given m c main_arg4) (given m c main_arg6)) (srcOf (given m c main_arg1)) (dstOf (given m c main_arg1)) :=
  (after1_leaky (W3 m ρ c)).trans <| (congrArg₂ leaky (after1_sum (W2 m ρ c)) (after1_slope (W2 m ρ c))).trans <|
    (leaky_pairSum _ _ _ _).trans <|
      congr (congr (congrArg₂ score (s1 m ρ c) (t1 m ρ c)) (src2 m ρ c)) (dst2 m ρ c)

/-- The first layer's attention. -/
theorem attend1 : W5 m ρ c (Proc.devRef .tc main_v53) = attend (W1 m ρ c (Proc.devRef .tc main_arg0)) (given m c main_arg1) (given m c main_arg4) (given m c main_arg5) (given m c main_arg6) :=
  (after1_agg (W4 m ρ c)).trans <|
    congr (congr (congrArg₂ aggregate
      ((W4_of m ρ c main_v8_0 (by decide +kernel)).trans <| (W3_of m ρ c main_v8_0 (by decide +kernel)).trans (h1 m ρ c))
      (congrArg₂ alphaK (score1 m ρ c) (dst4 m ρ c))) (src4 m ρ c)) (dst4 m ρ c)

/-- The first layer's output. -/
theorem out1 : W6 m ρ c (Proc.devRef .tc main_v57)
    = post (attend (W1 m ρ c (Proc.devRef .tc main_arg0)) (given m c main_arg1) (given m c main_arg4) (given m c main_arg5) (given m c main_arg6))
        (fun j => (given m c main_arg7 : FVec Ideal S128 .f32) (ix1 j)) (fun j => (given m c main_arg8 : FVec Ideal S128 .f32) (ix1 j))
        (fun j => (given m c main_arg9 : FVec Ideal S128 .f32) (ix1 j)) ((fun _ => (0 : EReal)) : FVec Ideal S10000x128 .f32) :=
  (W6_arr m ρ c 5).trans <| (reg1 (V5 m ρ) c).trans <|
    congr (congr (congr (congrArg₂ post (attend1 m ρ c)
      (funext fun j => (after1_v54 (W4 m ρ c) j).trans (congrFun (W4_args m ρ c main_arg7 (by decide +kernel)) (ix1 j))))
      (funext fun j => (after1_v55 (W4 m ρ c) j).trans (congrFun (W4_args m ρ c main_arg8 (by decide +kernel)) (ix1 j))))
      (funext fun j => (after1_v56 (W4 m ρ c) j).trans (congrFun (W4_args m ρ c main_arg9 (by decide +kernel)) (ix1 j))))
      ((W5_of m ρ c main_v7 (by decide +kernel)).trans <| (W4_of m ρ c main_v7 (by decide +kernel)).trans <| (W3_of m ρ c main_v7 (by decide +kernel)).trans <| (W2_of m ρ c main_v7 (by decide +kernel)).trans <| after0_zero (W0 m ρ c))

/-- The second layer's transformed features. -/
theorem h2 : W7 m ρ c (Proc.devRef .tc main_v58_0) = dense (W6 m ρ c (Proc.devRef .tc main_v57)) (given m c main_arg10) :=
  (W7_arr m ρ c 4).trans <| (reg2_h (V6 m ρ) c).trans <| congrArg (dense (W6 m ρ c (Proc.devRef .tc main_v57))) (W6_args m ρ c main_arg10 (by decide +kernel))

/-- The second layer's sums for the edges' sources. -/
theorem s2 : W7 m ρ c (Proc.devRef .tc main_v58_1) = heads (W6 m ρ c (Proc.devRef .tc main_v57)) (given m c main_arg10) (given m c main_arg11) :=
  (W7_arr m ρ c 5).trans <| (reg2_s (V6 m ρ) c).trans <| congrArg₂ (heads (W6 m ρ c (Proc.devRef .tc main_v57))) (W6_args m ρ c main_arg10 (by decide +kernel)) (W6_args m ρ c main_arg11 (by decide +kernel))

/-- The second layer's sums for the edges' targets. -/
theorem t2 : W7 m ρ c (Proc.devRef .tc main_v58_2) = heads (W6 m ρ c (Proc.devRef .tc main_v57)) (given m c main_arg10) (given m c main_arg12) :=
  (W7_arr m ρ c 6).trans <| (reg2_d (V6 m ρ) c).trans <| congrArg₂ (heads (W6 m ρ c (Proc.devRef .tc main_v57))) (W6_args m ρ c main_arg10 (by decide +kernel)) (W6_args m ρ c main_arg12 (by decide +kernel))

/-- The second layer's scores. -/
theorem score2 : W9 m ρ c (Proc.devRef .tc main_v74)
    = score (heads (W6 m ρ c (Proc.devRef .tc main_v57)) (given m c main_arg10) (given m c main_arg11)) (heads (W6 m ρ c (Proc.devRef .tc main_v57)) (given m c main_arg10) (given m c main_arg12)) (srcOf (given m c main_arg1)) (dstOf (given m c main_arg1)) :=
  (after3_leaky (W8 m ρ c)).trans <| (congrArg₂ leaky (after3_sum (W7 m ρ c)) (after3_slope (W7 m ρ c))).trans <|
    (leaky_pairSum _ _ _ _).trans <|
      congr (congr (congrArg₂ score (s2 m ρ c) (t2 m ρ c)) (src7 m ρ c)) (dst7 m ρ c)

/-- The second layer's attention. -/
theorem attend2 : W10 m ρ c (Proc.devRef .tc main_v103) = attend (W6 m ρ c (Proc.devRef .tc main_v57)) (given m c main_arg1) (given m c main_arg10) (given m c main_arg11) (given m c main_arg12) :=
  (after3_agg (W9 m ρ c)).trans <|
    congr (congr (congrArg₂ aggregate
      ((W9_of m ρ c main_v58_0 (by decide +kernel)).trans <| (W8_of m ρ c main_v58_0 (by decide +kernel)).trans (h2 m ρ c))
      (congrArg₂ alphaK (score2 m ρ c) (dst9 m ρ c))) (src9 m ρ c)) (dst9 m ρ c)

/-- The second layer's output. -/
theorem out2 : W11 m ρ c (Proc.devRef .tc main_v107)
    = post (attend (W6 m ρ c (Proc.devRef .tc main_v57)) (given m c main_arg1) (given m c main_arg10) (given m c main_arg11) (given m c main_arg12))
        (fun j => (given m c main_arg13 : FVec Ideal S128 .f32) (ix1 j)) (fun j => (given m c main_arg14 : FVec Ideal S128 .f32) (ix1 j))
        (fun j => (given m c main_arg15 : FVec Ideal S128 .f32) (ix1 j)) (W6 m ρ c (Proc.devRef .tc main_v57)) :=
  (W11_arr m ρ c 5).trans <| (reg3 (V10 m ρ) c).trans <|
    congr (congr (congr (congrArg₂ post (attend2 m ρ c)
      (funext fun j => (after3_v104 (W9 m ρ c) j).trans (congrFun (W9_args m ρ c main_arg13 (by decide +kernel)) (ix1 j))))
      (funext fun j => (after3_v105 (W9 m ρ c) j).trans (congrFun (W9_args m ρ c main_arg14 (by decide +kernel)) (ix1 j))))
      (funext fun j => (after3_v106 (W9 m ρ c) j).trans (congrFun (W9_args m ρ c main_arg15 (by decide +kernel)) (ix1 j))))
      ((W10_of m ρ c main_v57 (by decide +kernel)).trans <| (W9_of m ρ c main_v57 (by decide +kernel)).trans <| (W8_of m ρ c main_v57 (by decide +kernel)).trans <| (W7_of m ρ c main_v57 (by decide +kernel)).trans rfl)

/-- The third layer's transformed features. -/
theorem h3 : W12 m ρ c (Proc.devRef .tc main_v108_0) = dense (W11 m ρ c (Proc.devRef .tc main_v107)) (given m c main_arg16) :=
  (W12_arr m ρ c 4).trans <| (reg4_h (V11 m ρ) c).trans <| congrArg (dense (W11 m ρ c (Proc.devRef .tc main_v107))) (W11_args m ρ c main_arg16 (by decide +kernel))

/-- The third layer's sums for the edges' sources. -/
theorem s3 : W12 m ρ c (Proc.devRef .tc main_v108_1) = heads (W11 m ρ c (Proc.devRef .tc main_v107)) (given m c main_arg16) (given m c main_arg17) :=
  (W12_arr m ρ c 5).trans <| (reg4_s (V11 m ρ) c).trans <| congrArg₂ (heads (W11 m ρ c (Proc.devRef .tc main_v107))) (W11_args m ρ c main_arg16 (by decide +kernel)) (W11_args m ρ c main_arg17 (by decide +kernel))

/-- The third layer's sums for the edges' targets. -/
theorem t3 : W12 m ρ c (Proc.devRef .tc main_v108_2) = heads (W11 m ρ c (Proc.devRef .tc main_v107)) (given m c main_arg16) (given m c main_arg18) :=
  (W12_arr m ρ c 6).trans <| (reg4_d (V11 m ρ) c).trans <| congrArg₂ (heads (W11 m ρ c (Proc.devRef .tc main_v107))) (W11_args m ρ c main_arg16 (by decide +kernel)) (W11_args m ρ c main_arg18 (by decide +kernel))

/-- The third layer's scores. -/
theorem score3 : W14 m ρ c (Proc.devRef .tc main_v124)
    = score (heads (W11 m ρ c (Proc.devRef .tc main_v107)) (given m c main_arg16) (given m c main_arg17)) (heads (W11 m ρ c (Proc.devRef .tc main_v107)) (given m c main_arg16) (given m c main_arg18)) (srcOf (given m c main_arg1)) (dstOf (given m c main_arg1)) :=
  (after5_leaky (W13 m ρ c)).trans <| (congrArg₂ leaky (after5_sum (W12 m ρ c)) (after5_slope (W12 m ρ c))).trans <|
    (leaky_pairSum _ _ _ _).trans <|
      congr (congr (congrArg₂ score (s3 m ρ c) (t3 m ρ c)) (src12 m ρ c)) (dst12 m ρ c)

/-- The third layer's attention. -/
theorem attend3 : W15 m ρ c (Proc.devRef .tc main_v153) = attend (W11 m ρ c (Proc.devRef .tc main_v107)) (given m c main_arg1) (given m c main_arg16) (given m c main_arg17) (given m c main_arg18) :=
  (after5_agg (W14 m ρ c)).trans <|
    congr (congr (congrArg₂ aggregate
      ((W14_of m ρ c main_v108_0 (by decide +kernel)).trans <| (W13_of m ρ c main_v108_0 (by decide +kernel)).trans (h3 m ρ c))
      (congrArg₂ alphaK (score3 m ρ c) (dst14 m ρ c))) (src14 m ρ c)) (dst14 m ρ c)

/-- The third layer's output. -/
theorem out3 : W16 m ρ c (Proc.devRef .tc main_v157)
    = post (attend (W11 m ρ c (Proc.devRef .tc main_v107)) (given m c main_arg1) (given m c main_arg16) (given m c main_arg17) (given m c main_arg18))
        (fun j => (given m c main_arg19 : FVec Ideal S128 .f32) (ix1 j)) (fun j => (given m c main_arg20 : FVec Ideal S128 .f32) (ix1 j))
        (fun j => (given m c main_arg21 : FVec Ideal S128 .f32) (ix1 j)) (W11 m ρ c (Proc.devRef .tc main_v107)) :=
  (W16_arr m ρ c 5).trans <| (reg5 (V15 m ρ) c).trans <|
    congr (congr (congr (congrArg₂ post (attend3 m ρ c)
      (funext fun j => (after5_v154 (W14 m ρ c) j).trans (congrFun (W14_args m ρ c main_arg19 (by decide +kernel)) (ix1 j))))
      (funext fun j => (after5_v155 (W14 m ρ c) j).trans (congrFun (W14_args m ρ c main_arg20 (by decide +kernel)) (ix1 j))))
      (funext fun j => (after5_v156 (W14 m ρ c) j).trans (congrFun (W14_args m ρ c main_arg21 (by decide +kernel)) (ix1 j))))
      ((W15_of m ρ c main_v107 (by decide +kernel)).trans <| (W14_of m ρ c main_v107 (by decide +kernel)).trans <| (W13_of m ρ c main_v107 (by decide +kernel)).trans <| (W12_of m ρ c main_v107 (by decide +kernel)).trans rfl)

/-- The first layer's output is the reference's. -/
theorem ref1 : W6 m ρ c (Proc.devRef .tc main_v57) = Cert.ReferenceIdeal.Read.val_main_v115 (F := Ideal) (given m c main_arg0) (given m c main_arg1) (given m c main_arg4) (given m c main_arg5) (given m c main_arg6) (given m c main_arg7) (given m c main_arg8) (given m c main_arg9) := by
  rw [layer1, v92_eq]
  exact (out1 m ρ c).trans (by rw [W1_args m ρ c main_arg0 (by decide +kernel)]; rfl)

/-- The second layer's output is the reference's. -/
theorem ref2 : W11 m ρ c (Proc.devRef .tc main_v107) = Cert.ReferenceIdeal.Read.val_main_v225 (F := Ideal) (given m c main_arg0) (given m c main_arg1) (given m c main_arg4) (given m c main_arg5) (given m c main_arg6) (given m c main_arg7) (given m c main_arg8) (given m c main_arg9) (given m c main_arg10) (given m c main_arg11) (given m c main_arg12) (given m c main_arg13) (given m c main_arg14) (given m c main_arg15) := by
  rw [layer2, v92_eq]
  exact (out2 m ρ c).trans (by rw [ref1 m ρ c]; rfl)

/-- The third layer's output is the reference's. -/
theorem ref3 : W16 m ρ c (Proc.devRef .tc main_v157) = Cert.ReferenceIdeal.Read.val_main_v335 (F := Ideal) (given m c main_arg0) (given m c main_arg1) (given m c main_arg4) (given m c main_arg5) (given m c main_arg6) (given m c main_arg7) (given m c main_arg8) (given m c main_arg9) (given m c main_arg10) (given m c main_arg11) (given m c main_arg12) (given m c main_arg13) (given m c main_arg14) (given m c main_arg15) (given m c main_arg16) (given m c main_arg17) (given m c main_arg18) (given m c main_arg19) (given m c main_arg20) (given m c main_arg21) := by
  rw [layer3, v92_eq]
  exact (out3 m ρ c).trans (by rw [ref2 m ρ c]; rfl)

/-- The reference's result is its readout of the third layer's output. -/
theorem v361_pool (x0 : FVec Ideal S10000x128 .f32) (x1 : IVec S2x320000 32) (x3 : IVec S10000 32) (x4 : FVec Ideal S128x128 .f32)
    (x5 x6 : FVec Ideal S8x16 .f32) (x7 x8 x9 : FVec Ideal S128 .f32) (x10 : FVec Ideal S128x128 .f32) (x11 x12 : FVec Ideal S8x16 .f32)
    (x13 x14 x15 : FVec Ideal S128 .f32) (x16 : FVec Ideal S128x128 .f32) (x17 x18 : FVec Ideal S8x16 .f32)
    (x19 x20 x21 : FVec Ideal S128 .f32) (x22 : FVec Ideal S384x10 .f32) (x23 : FVec Ideal S10 .f32) :
    Cert.ReferenceIdeal.Read.val_main_v361 (F := Ideal) x0 x1 x3 x4 x5 x6 x7 x8 x9 x10 x11 x12 x13 x14 x15 x16 x17 x18 x19 x20 x21 x22 x23
      = refPool (Cert.ReferenceIdeal.Read.val_main_v335 (F := Ideal) x0 x1 x4 x5 x6 x7 x8 x9 x10 x11 x12 x13 x14 x15 x16 x17 x18 x19 x20 x21) x3 x22 x23 := rfl

/-- The result array holds the reference's value of the launch's arguments. -/
theorem kernel_value : W18 m ρ c (Proc.devRef .tc main_v161) = Cert.ReferenceIdeal.Read.val_main_v361 (F := Ideal) (given m c main_arg0) (given m c main_arg1) (given m c main_arg3) (given m c main_arg4) (given m c main_arg5) (given m c main_arg6) (given m c main_arg7) (given m c main_arg8) (given m c main_arg9) (given m c main_arg10) (given m c main_arg11) (given m c main_arg12) (given m c main_arg13) (given m c main_arg14) (given m c main_arg15) (given m c main_arg16) (given m c main_arg17) (given m c main_arg18) (given m c main_arg19) (given m c main_arg20) (given m c main_arg21) (given m c main_arg22) (given m c main_arg23) := by
  have h3 : W17 m ρ c (Proc.devRef .tc main_v157) = _ := (W17_of m ρ c main_v157 (by decide +kernel)).trans (ref3 m ρ c)
  rw [v361_pool, ← h3]
  refine (W18_arr m ρ c 5).trans <| (reg6 (V17 m ρ) c).trans ?_
  refine (pool_eq _ (given m c main_arg3) _ (given m c main_arg23) _ _ _
    (fun n => (after6_row (W16 m ρ c) n).trans (congrFun (W16_args m ρ c main_arg3 (by decide +kernel)) (ix1 n)))
    (fun n => (after6_col (W16 m ρ c) n).trans (congrFun (W16_args m ρ c main_arg3 (by decide +kernel)) (ix1 n)))
    (fun n => (after6_bias (W16 m ρ c) n).trans (congrFun (W16_args m ρ c main_arg23 (by decide +kernel)) (ix1 n)))).trans ?_
  exact congrArg (fun w => refPool _ _ w _) (W17_args m ρ c main_arg22 (by decide +kernel))

end Cert.Gat

end
-- ==== Proof.lean ====
/- The certificate: the two kernel programs and the reference run, end quiescent and keep their arguments; the mask's
   constant is the ideal program's; and the ideal kernel's result is the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelValue
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The compiled program terminates without a fault, keeps its arguments and ends quiescent. -/
theorem runs_kernel : Cert.quiescent_Kernel (hKernel := Cert.Kernel.Gen.facts) := fun m g _ => Cert.Kernel.Gen.frame m g

/-- So does the ideal program. -/
theorem runs_ideal : Cert.quiescent_KernelIdeal (hKernelIdeal := Cert.KernelIdeal.Gen.facts) := fun m g _ => Cert.KernelIdeal.Gen.frame m g

/-- So does the reference, which declares no semaphore. -/
theorem runs_reference : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩) (Cert.ReferenceIdeal.Value.run (F := Ideal) m g)

/-- The named constant of the ideal program is minus infinity there and the printed bits in the compiled program. -/
theorem mask_named : Cert.preserves_Kernel_KernelIdeal := IdealRules.named_const.statement Cert.KernelIdeal.κ "mask" .f32 0xF149F2CA#32 ⊥ rfl

/-- From memories that agree on the arguments the ideal program and the reference end with equal results. -/
theorem same_result : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Gen.W18 m g c (Proc.devRef .tc Cert.KernelIdeal.main_v161),
    (θ_run Cert.KernelIdeal.defs _ _).mono (fun r h => h.1) (Cert.KernelIdeal.Gen.run_value (F := Ideal) m g),
    (θ_run Cert.ReferenceIdeal.defs _ _).mono (fun r h c => ⟨(h c).1.trans ?_, (h c).2⟩) (Cert.ReferenceIdeal.Value.run (F := Ideal) m' g')⟩
  refine (Cert.ReferenceIdeal.Read.val_main_v361_eq (F := Ideal) (StableHlo.launchContents m' c)).trans ?_
  refine Eq.trans ?_ (Cert.Gat.kernel_value m g c).symm
  obtain ⟨h0, h1, h2, h3, h4, h5, h6, h7, h8, h9, h10, h11, h12, h13, h14, h15, h16, h17, h18, h19, h20, h21, h22, h23⟩ := hagree c
  exact congr (congr (congr (congr (congr (congr (congr (congr (congr (congr (congr (congr (congr (congr (congr (congr (congr (congr (congr (congr (congr (congr (congrArg (Cert.ReferenceIdeal.Read.val_main_v361 (F := Ideal)) h0) h1) h3) h4) h5) h6) h7) h8) h9) h10) h11) h12) h13) h14) h15) h16) h17) h18) h19) h20) h21) h22) h23

/-- Everything the certificate claims. -/
theorem claim : Cert.Claim := ⟨Cert.Kernel.Gen.facts, Cert.KernelIdeal.Gen.facts, Cert.ReferenceIdeal.Gen.facts,
  runs_kernel, runs_ideal, runs_reference, mask_named, same_result⟩

end Cert.Proof

end
